-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_zero [hPre_biases_zero : Cert.Pre_biases_zero.Facts] (m : (ℓ : Loc Cert.KernelIdeal.nD Cert.KernelIdeal.τ Cert.KernelIdeal.sig) → Buf (Elt Ideal) ℓ) : Prop :=
  ∀ c : Dev Cert.KernelIdeal.nD,
    (Cert.Pre_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_zero [hPre_biases_zero : Cert.Pre_biases_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_biases_zero [hKernelIdeal : Cert.KernelIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_biases_zero [hReferenceIdeal : Cert.ReferenceIdeal.Facts] [hPre_biases_zero : Cert.Pre_biases_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "half_root" .f32 0x3F3504F3#32 (((Real.sqrt 2)⁻¹ : ℝ) : EReal)

def algebraic_KernelIdeal_ReferenceIdeal_pre_biases_zero [hKernelIdeal : Cert.KernelIdeal.Facts] [hReferenceIdeal : Cert.ReferenceIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_biases_zero : Cert.Pre_biases_zero.Facts),
    quiescent_Kernel (hKernel := hKernel)
    ∧ quiescent_KernelIdeal (hKernelIdeal := hKernelIdeal)
    ∧ quiescent_KernelIdeal_pre_biases_zero (hKernelIdeal := hKernelIdeal) (hPre_biases_zero := hPre_biases_zero)
    ∧ quiescent_ReferenceIdeal (hReferenceIdeal := hReferenceIdeal)
    ∧ quiescent_ReferenceIdeal_pre_biases_zero (hReferenceIdeal := hReferenceIdeal) (hPre_biases_zero := hPre_biases_zero)
    ∧ preserves_Kernel_KernelIdeal
    ∧ algebraic_KernelIdeal_ReferenceIdeal_pre_biases_zero (hKernelIdeal := hKernelIdeal) (hReferenceIdeal := hReferenceIdeal) (hPre_biases_zero := hPre_biases_zero)
-- ==== Pre_biases_zero.lean ====
abbrev S8x96x32x32 : Shape := ⟨4, ![8, 96, 32, 32]⟩
abbrev S384x96 : Shape := ⟨2, ![384, 96]⟩
abbrev S384 : Shape := ⟨1, ![384]⟩
abbrev S96x384 : Shape := ⟨2, ![96, 384]⟩
abbrev S96 : Shape := ⟨1, ![96]⟩
abbrev S8x96 : Shape := ⟨2, ![8, 96]⟩
abbrev S8 : Shape := ⟨1, ![8]⟩
abbrev S8x384x96 : Shape := ⟨3, ![8, 384, 96]⟩
abbrev S8x384 : Shape := ⟨2, ![8, 384]⟩
abbrev S8x96x384 : Shape := ⟨3, ![8, 96, 384]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel
  bcast_S_S96 : S_.BroadcastsInDim S96 (![] : Fin 0 → Fin S96.rank)
  reducesTo_S96_S_d0 : S96.ReducesTo [0] S_
  bcast_S_S8 : S_.BroadcastsInDim S8 (![] : Fin 0 → Fin S8.rank)
  reducesTo_S8_S_d0 : S8.ReducesTo [0] S_
  bcast_S_S8x384 : S_.BroadcastsInDim S8x384 (![] : Fin 0 → Fin S8x384.rank)
  reducesTo_S8x384_S_d0_1 : S8x384.ReducesTo [0, 1] S_
  bcast_S_S8x96 : S_.BroadcastsInDim S8x96 (![] : Fin 0 → Fin S8x96.rank)
  reducesTo_S8x96_S_d0_1 : S8x96.ReducesTo [0, 1] S_

variable [Facts]

def fn_part1 {F : FTy → Type} [FloatOps F] (main_arg10 : FVec F S8x96 .f32) (main_v14 : IVec S_ 1) (main_cst_6 : FVec F S_ .f32) : IVec S_ 1 :=
  let main_v15 : FVec F S8x96 .f32 := broadcastInDim S8x96 ![] bcast_S_S8x96 main_cst_6
  let main_v16 : IVec S8x96 1 := cmpf .oeq main_arg10 main_v15
  let main_c_7 : IVec S_ 1 := constantI S_ 1 1#1
  let main_v17 : IVec S_ 1 := (fun x v => Host.reduce IntOp.andi x v reducesTo_S8x96_S_d0_1 h_S_) main_v16 main_c_7
  let main_v18 : IVec S_ 1 := andi main_v14 main_v17
  main_v18

def fn {F : FTy → Type} [FloatOps F] (main_arg0 : FVec F S8x96x32x32 .f32) (main_arg1 : FVec F S384x96 .f32) (main_arg2 : FVec F S384 .f32) (main_arg3 : FVec F S96x384 .f32) (main_arg4 : FVec F S96 .f32) (main_arg5 : FVec F S8x96 .f32) (main_arg6 : FVec F S8 .f32) (main_arg7 : FVec F S8x384x96 .f32) (main_arg8 : FVec F S8x384 .f32) (main_arg9 : FVec F S8x96x384 .f32) (main_arg10 : FVec F S8x96 .f32) : IVec S_ 1 :=
  let main_cst : FVec F S_ .f32 := constant S_ .f32 0x00000000#32
  let main_v0 : FVec F S384 .f32 := broadcastInDim S384 ![] bcast_S_S384 main_cst
  let main_v1 : IVec S384 1 := cmpf .oeq main_arg2 main_v0
  let main_c : IVec S_ 1 := constantI S_ 1 1#1
  let main_v2 : IVec S_ 1 := (fun x v => Host.reduce IntOp.andi x v reducesTo_S384_S_d0 h_S_) main_v1 main_c
  let main_cst_0 : FVec F S_ .f32 := constant S_ .f32 0x00000000#32
  let main_v3 : FVec F S96 .f32 := broadcastInDim S96 ![] bcast_S_S96 main_cst_0
  let main_v4 : IVec S96 1 := cmpf .oeq main_arg4 main_v3
  let main_c_1 : IVec S_ 1 := constantI S_ 1 1#1
  let main_v5 : IVec S_ 1 := (fun x v => Host.reduce IntOp.andi x v reducesTo_S96_S_d0 h_S_) main_v4 main_c_1
  let main_v6 : IVec S_ 1 := andi main_v2 main_v5
  let main_cst_2 : FVec F S_ .f32 := constant S_ .f32 0x00000000#32
  let main_v7 : FVec F S8 .f32 := broadcastInDim S8 ![] bcast_S_S8 main_cst_2
  let main_v8 : IVec S8 1 := cmpf .oeq main_arg6 main_v7
  let main_c_3 : IVec S_ 1 := constantI S_ 1 1#1
  let main_v9 : IVec S_ 1 := (fun x v => Host.reduce IntOp.andi x v reducesTo_S8_S_d0 h_S_) main_v8 main_c_3
  let main_v10 : IVec S_ 1 := andi main_v6 main_v9
  let main_cst_4 : FVec F S_ .f32 := constant S_ .f32 0x00000000#32
  let main_v11 : FVec F S8x384 .f32 := broadcastInDim S8x384 ![] bcast_S_S8x384 main_cst_4
  let main_v12 : IVec S8x384 1 := cmpf .oeq main_arg8 main_v11
  let main_c_5 : IVec S_ 1 := constantI S_ 1 1#1
  let main_v13 : IVec S_ 1 := (fun x v => Host.reduce IntOp.andi x v reducesTo_S8x384_S_d0_1 h_S_) main_v12 main_c_5
  let main_v14 : IVec S_ 1 := andi main_v10 main_v13
  let main_cst_6 : FVec F S_ .f32 := constant S_ .f32 0x00000000#32
  fn_part1 (F := F) main_arg10 main_v14 main_cst_6
-- ==== Kernel.lean ====
abbrev S8x96x32x32 : Shape := ⟨4, ![8, 96, 32, 32]⟩
abbrev S384x96 : Shape := ⟨2, ![384, 96]⟩
abbrev S384 : Shape := ⟨1, ![384]⟩
abbrev S96x384 : Shape := ⟨2, ![96, 384]⟩
abbrev S96 : Shape := ⟨1, ![96]⟩
abbrev S8x96 : Shape := ⟨2, ![8, 96]⟩
abbrev S8 : Shape := ⟨1, ![8]⟩
abbrev S8x384x96 : Shape := ⟨3, ![8, 384, 96]⟩
abbrev S8x384 : Shape := ⟨2, ![8, 384]⟩
abbrev S8x96x384 : Shape := ⟨3, ![8, 96, 384]⟩
abbrev S8x96x1024 : Shape := ⟨3, ![8, 96, 1024]⟩
abbrev S1x1 : Shape := ⟨2, ![1, 1]⟩
abbrev S2x96x1024 : Shape := ⟨3, ![2, 96, 1024]⟩
abbrev S3456x96 : Shape := ⟨2, ![3456, 96]⟩
abbrev S9x96x384 : Shape := ⟨3, ![9, 96, 384]⟩
abbrev S16x128 : Shape := ⟨2, ![16, 128]⟩
abbrev S1x96x384 : Shape := ⟨3, ![1, 96, 384]⟩
abbrev S1x384x96 : Shape := ⟨3, ![1, 384, 96]⟩
abbrev S8x1024 : Shape := ⟨2, ![8, 1024]⟩
abbrev S1x96x1024 : Shape := ⟨3, ![1, 96, 1024]⟩
abbrev S96x1024 : Shape := ⟨2, ![96, 1024]⟩
abbrev S1024 : Shape := ⟨1, ![1024]⟩
abbrev S1x1024 : Shape := ⟨2, ![1, 1024]⟩
abbrev S8x128 : Shape := ⟨2, ![8, 128]⟩
abbrev S8x1 : Shape := ⟨2, ![8, 1]⟩
abbrev S3456x1024 : Shape := ⟨2, ![3456, 1024]⟩
abbrev S384x1024 : Shape := ⟨2, ![384, 1024]⟩
abbrev S16 : Shape := ⟨1, ![16]⟩
abbrev S16x1 : Shape := ⟨2, ![16, 1]⟩
abbrev S1x8x1 : Shape := ⟨3, ![1, 8, 1]⟩
abbrev S1 : Shape := ⟨1, ![1]⟩
abbrev S1x1x1 : Shape := ⟨3, ![1, 1, 1]⟩
abbrev S_ : Shape := ⟨0, ![]⟩

abbrev nBuf : Space → Nat
  | .hbm => 16
  | .vmem => 13
  | .smem => 0
  | _ => 0

abbrev bufTy : (tb : Table) → Fin (tcTables nBuf tb) → BufTy
  | .hbm, ⟨0, _⟩ => ⟨S8x96x32x32, .f32⟩
  | .hbm, ⟨1, _⟩ => ⟨S384x96, .f32⟩
  | .hbm, ⟨2, _⟩ => ⟨S384, .f32⟩
  | .hbm, ⟨3, _⟩ => ⟨S96x384, .f32⟩
  | .hbm, ⟨4, _⟩ => ⟨S96, .f32⟩
  | .hbm, ⟨5, _⟩ => ⟨S8x96, .f32⟩
  | .hbm, ⟨6, _⟩ => ⟨S8, .f32⟩
  | .hbm, ⟨7, _⟩ => ⟨S8x384x96, .f32⟩
  | .hbm, ⟨8, _⟩ => ⟨S8x384, .f32⟩
  | .hbm, ⟨9, _⟩ => ⟨S8x96x384, .f32⟩
  | .hbm, ⟨10, _⟩ => ⟨S8x96, .f32⟩
  | .hbm, ⟨11, _⟩ => ⟨S8x96x1024, .f32⟩
  | .hbm, ⟨12, _⟩ => ⟨S8x96x1024, .f32⟩
  | .hbm, ⟨13, _⟩ => ⟨S1x1, .f32⟩
  | .hbm, ⟨14, _⟩ => ⟨S8x96x32x32, .f32⟩
  | .hbm, ⟨15, _⟩ => ⟨S_, .f32⟩
  | .local _ .vmem, ⟨0, _⟩ => ⟨S2x96x1024, .f32⟩
  | .local _ .vmem, ⟨1, _⟩ => ⟨S2x96x1024, .f32⟩
  | .local _ .vmem, ⟨2, _⟩ => ⟨S8x96, .f32⟩
  | .local _ .vmem, ⟨3, _⟩ => ⟨S384x96, .f32⟩
  | .local _ .vmem, ⟨4, _⟩ => ⟨S8x384x96, .f32⟩
  | .local _ .vmem, ⟨5, _⟩ => ⟨S96x384, .f32⟩
  | .local _ .vmem, ⟨6, _⟩ => ⟨S8x96x384, .f32⟩
  | .local _ .vmem, ⟨7, _⟩ => ⟨S2x96x1024, .f32⟩
  | .local _ .vmem, ⟨8, _⟩ => ⟨S2x96x1024, .f32⟩
  | .local _ .vmem, ⟨9, _⟩ => ⟨S1x1, .f32⟩
  | .local _ .vmem, ⟨10, _⟩ => ⟨S3456x96, .bf16⟩
  | .local _ .vmem, ⟨11, _⟩ => ⟨S9x96x384, .bf16⟩
  | .local _ .vmem, ⟨12, _⟩ => ⟨S16x128, .f32⟩
  | _, _ => ⟨S8x96x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v422 : BitVec 1 := Scalar.cmpi .eq arg0 c3_i32
  let v423 : BitVec 32 := Scalar.extui v422
  let c0_i32_162 : BitVec 32 := 0#32
  let v424 : BitVec 1 := Scalar.cmpi .ne v423 c0_i32_162
  v424

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x384x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "half_root" => some (((Real.sqrt 2)⁻¹ : ℝ) : EReal)
  | _ => none
-- ==== ReferenceIdeal.lean ====
abbrev S8x96x32x32 : Shape := ⟨4, ![8, 96, 32, 32]⟩
abbrev S384x96 : Shape := ⟨2, ![384, 96]⟩
abbrev S384 : Shape := ⟨1, ![384]⟩
abbrev S96x384 : Shape := ⟨2, ![96, 384]⟩
abbrev S96 : Shape := ⟨1, ![96]⟩
abbrev S8x96 : Shape := ⟨2, ![8, 96]⟩
abbrev S8 : Shape := ⟨1, ![8]⟩
abbrev S8x384x96 : Shape := ⟨3, ![8, 384, 96]⟩
abbrev S8x384 : Shape := ⟨2, ![8, 384]⟩
abbrev S8x96x384 : Shape := ⟨3, ![8, 96, 384]⟩
abbrev S8x32x32x384 : Shape := ⟨4, ![8, 32, 32, 384]⟩
abbrev S8x384x32x32 : Shape := ⟨4, ![8, 384, 32, 32]⟩
abbrev S1x384x1x1 : Shape := ⟨4, ![1, 384, 1, 1]⟩
abbrev S_ : Shape := ⟨0, ![]⟩
abbrev S8x32x32x96 : Shape := ⟨4, ![8, 32, 32, 96]⟩
abbrev S1x96x1x1 : Shape := ⟨4, ![1, 96, 1, 1]⟩
abbrev S8x32x32x8 : Shape := ⟨4, ![8, 32, 32, 8]⟩
abbrev S8x8x32x32 : Shape := ⟨4, ![8, 8, 32, 32]⟩
abbrev S1x8x1x1 : Shape := ⟨4, ![1, 8, 1, 1]⟩
abbrev S8x32x32 : Shape := ⟨3, ![8, 32, 32]⟩
abbrev S8x1x32x32 : Shape := ⟨4, ![8, 1, 32, 32]⟩
abbrev S8x32x32x3 : Shape := ⟨4, ![8, 32, 32, 3]⟩
abbrev S8x32x32x1 : Shape := ⟨4, ![8, 32, 32, 1]⟩
abbrev S8x32x32x3x1 : Shape := ⟨5, ![8, 32, 32, 3, 1]⟩
abbrev S1x1x1x1x8 : Shape := ⟨5, ![1, 1, 1, 1, 8]⟩
abbrev S8x32x32x3x8 : Shape := ⟨5, ![8, 32, 32, 3, 8]⟩
abbrev S1x384x96 : Shape := ⟨3, ![1, 384, 96]⟩
abbrev S1x384 : Shape := ⟨2, ![1, 384]⟩
abbrev S1x96x384 : Shape := ⟨3, ![1, 96, 384]⟩
abbrev S1x96 : Shape := ⟨2, ![1, 96]⟩

abbrev nBuf : Space → Nat
  | .hbm => 347
  | .vmem => 0
  | .smem => 0
  | _ => 0

abbrev hbmTy0_0 (i : Nat) : BufTy := match i % 128 with
  | 0 => ⟨S8x96x32x32, .f32⟩
  | 1 => ⟨S384x96, .f32⟩
  | 2 => ⟨S384, .f32⟩
  | 3 => ⟨S96x384, .f32⟩
  | 4 => ⟨S96, .f32⟩
  | 5 => ⟨S8x96, .f32⟩
  | 6 => ⟨S8, .f32⟩
  | 7 => ⟨S8x384x96, .f32⟩
  | 8 => ⟨S8x384, .f32⟩
  | 9 => ⟨S8x96x384, .f32⟩
  | 10 => ⟨S8x96, .f32⟩
  | 11 => ⟨S8x32x32x384, .f32⟩
  | 12 => ⟨S8x384x32x32, .f32⟩
  | 13 => ⟨S1x384x1x1, .f32⟩
  | 14 => ⟨S8x384x32x32, .f32⟩
  | 15 => ⟨S8x384x32x32, .f32⟩
  | 16 => ⟨S_, .f32⟩
  | 17 => ⟨S8x384x32x32, .f32⟩
  | 18 => ⟨S8x384x32x32, .f32⟩
  | 19 => ⟨S8x384x32x32, .f32⟩
  | 20 => ⟨S_, .f32⟩
  | 21 => ⟨S_, .f32⟩
  | 22 => ⟨S8x384x32x32, .f32⟩
  | 23 => ⟨S8x384x32x32, .f32⟩
  | 24 => ⟨S8x384x32x32, .f32⟩
  | 25 => ⟨S8x384x32x32, .f32⟩
  | 26 => ⟨S8x32x32x96, .f32⟩
  | 27 => ⟨S8x96x32x32, .f32⟩
  | 28 => ⟨S1x96x1x1, .f32⟩
  | 29 => ⟨S8x96x32x32, .f32⟩
  | 30 => ⟨S8x96x32x32, .f32⟩
  | 31 => ⟨S8x32x32x8, .f32⟩
  | 32 => ⟨S8x8x32x32, .f32⟩
  | 33 => ⟨S1x8x1x1, .f32⟩
  | 34 => ⟨S8x8x32x32, .f32⟩
  | 35 => ⟨S8x8x32x32, .f32⟩
  | 36 => ⟨S_, .f32⟩
  | 37 => ⟨S8x32x32, .f32⟩
  | 38 => ⟨S_, .f32⟩
  | 39 => ⟨S8x32x32, .f32⟩
  | 40 => ⟨S8x32x32, .f32⟩
  | 41 => ⟨S8x1x32x32, .f32⟩
  | 42 => ⟨S8x8x32x32, .f32⟩
  | 43 => ⟨S8x8x32x32, .f32⟩
  | 44 => ⟨S8x8x32x32, .f32⟩
  | 45 => ⟨S_, .f32⟩
  | 46 => ⟨S8x32x32, .f32⟩
  | 47 => ⟨S8x1x32x32, .f32⟩
  | 48 => ⟨S8x8x32x32, .f32⟩
  | 49 => ⟨S8x8x32x32, .f32⟩
  | 50 => ⟨S8x32x32x8, .f32⟩
  | 51 => ⟨S8x32x32x3, .f32⟩
  | 52 => ⟨S8x32x32x3, .i32⟩
  | 53 => ⟨S_, .f32⟩
  | 54 => ⟨S8x32x32, .f32⟩
  | 55 => ⟨S8x32x32x1, .f32⟩
  | 56 => ⟨S8x32x32x3, .f32⟩
  | 57 => ⟨S8x32x32x3, .f32⟩
  | 58 => ⟨S8x32x32x3x1, .i32⟩
  | 59 => ⟨S1x1x1x1x8, .i32⟩
  | 60 => ⟨S8x32x32x3x8, .i32⟩
  | 61 => ⟨S8x32x32x3x8, .i32⟩
  | 62 => ⟨S8x32x32x3x8, .i1⟩
  | 63 => ⟨S8x32x32x3x8, .f32⟩
  | 64 => ⟨S8x32x32x3x1, .f32⟩
  | 65 => ⟨S8x32x32x3x8, .f32⟩
  | 66 => ⟨S8x32x32x3x8, .f32⟩
  | 67 => ⟨S_, .f32⟩
  | 68 => ⟨S8x32x32x8, .f32⟩
  | 69 => ⟨S8x8x32x32, .f32⟩
  | 70 => ⟨S_, .f32⟩
  | 71 => ⟨S8x96x32x32, .f32⟩
  | 72 => ⟨S8x1x32x32, .f32⟩
  | 73 => ⟨S1x384x96, .f32⟩
  | 74 => ⟨S384x96, .f32⟩
  | 75 => ⟨S1x384, .f32⟩
  | 76 => ⟨S384, .f32⟩
  | 77 => ⟨S1x96x384, .f32⟩
  | 78 => ⟨S96x384, .f32⟩
  | 79 => ⟨S1x96, .f32⟩
  | 80 => ⟨S96, .f32⟩
  | 81 => ⟨S8x32x32x384, .f32⟩
  | 82 => ⟨S8x384x32x32, .f32⟩
  | 83 => ⟨S1x384x1x1, .f32⟩
  | 84 => ⟨S8x384x32x32, .f32⟩
  | 85 => ⟨S8x384x32x32, .f32⟩
  | 86 => ⟨S_, .f32⟩
  | 87 => ⟨S8x384x32x32, .f32⟩
  | 88 => ⟨S8x384x32x32, .f32⟩
  | 89 => ⟨S8x384x32x32, .f32⟩
  | 90 => ⟨S_, .f32⟩
  | 91 => ⟨S_, .f32⟩
  | 92 => ⟨S8x384x32x32, .f32⟩
  | 93 => ⟨S8x384x32x32, .f32⟩
  | 94 => ⟨S8x384x32x32, .f32⟩
  | 95 => ⟨S8x384x32x32, .f32⟩
  | 96 => ⟨S8x32x32x96, .f32⟩
  | 97 => ⟨S8x96x32x32, .f32⟩
  | 98 => ⟨S1x96x1x1, .f32⟩
  | 99 => ⟨S8x96x32x32, .f32⟩
  | 100 => ⟨S8x96x32x32, .f32⟩
  | 101 => ⟨S8x96x32x32, .f32⟩
  | 102 => ⟨S8x96x32x32, .f32⟩
  | 103 => ⟨S8x96x32x32, .f32⟩
  | 104 => ⟨S8x1x32x32, .f32⟩
  | 105 => ⟨S1x384x96, .f32⟩
  | 106 => ⟨S384x96, .f32⟩
  | 107 => ⟨S1x384, .f32⟩
  | 108 => ⟨S384, .f32⟩
  | 109 => ⟨S1x96x384, .f32⟩
  | 110 => ⟨S96x384, .f32⟩
  | 111 => ⟨S1x96, .f32⟩
  | 112 => ⟨S96, .f32⟩
  | 113 => ⟨S8x32x32x384, .f32⟩
  | 114 => ⟨S8x384x32x32, .f32⟩
  | 115 => ⟨S1x384x1x1, .f32⟩
  | 116 => ⟨S8x384x32x32, .f32⟩
  | 117 => ⟨S8x384x32x32, .f32⟩
  | 118 => ⟨S_, .f32⟩
  | 119 => ⟨S8x384x32x32, .f32⟩
  | 120 => ⟨S8x384x32x32, .f32⟩
  | 121 => ⟨S8x384x32x32, .f32⟩
  | 122 => ⟨S_, .f32⟩
  | 123 => ⟨S_, .f32⟩
  | 124 => ⟨S8x384x32x32, .f32⟩
  | 125 => ⟨S8x384x32x32, .f32⟩
  | 126 => ⟨S8x384x32x32, .f32⟩
  | 127 => ⟨S8x384x32x32, .f32⟩
  | _ => ⟨S8x96x32x32, .f32⟩

abbrev hbmTy0_1 (i : Nat) : BufTy := match i % 128 with
  | 0 => ⟨S8x32x32x96, .f32⟩
  | 1 => ⟨S8x96x32x32, .f32⟩
  | 2 => ⟨S1x96x1x1, .f32⟩
  | 3 => ⟨S8x96x32x32, .f32⟩
  | 4 => ⟨S8x96x32x32, .f32⟩
  | 5 => ⟨S8x96x32x32, .f32⟩
  | 6 => ⟨S8x96x32x32, .f32⟩
  | 7 => ⟨S8x96x32x32, .f32⟩
  | 8 => ⟨S8x1x32x32, .f32⟩
  | 9 => ⟨S1x384x96, .f32⟩
  | 10 => ⟨S384x96, .f32⟩
  | 11 => ⟨S1x384, .f32⟩
  | 12 => ⟨S384, .f32⟩
  | 13 => ⟨S1x96x384, .f32⟩
  | 14 => ⟨S96x384, .f32⟩
  | 15 => ⟨S1x96, .f32⟩
  | 16 => ⟨S96, .f32⟩
  | 17 => ⟨S8x32x32x384, .f32⟩
  | 18 => ⟨S8x384x32x32, .f32⟩
  | 19 => ⟨S1x384x1x1, .f32⟩
  | 20 => ⟨S8x384x32x32, .f32⟩
  | 21 => ⟨S8x384x32x32, .f32⟩
  | 22 => ⟨S_, .f32⟩
  | 23 => ⟨S8x384x32x32, .f32⟩
  | 24 => ⟨S8x384x32x32, .f32⟩
  | 25 => ⟨S8x384x32x32, .f32⟩
  | 26 => ⟨S_, .f32⟩
  | 27 => ⟨S_, .f32⟩
  | 28 => ⟨S8x384x32x32, .f32⟩
  | 29 => ⟨S8x384x32x32, .f32⟩
  | 30 => ⟨S8x384x32x32, .f32⟩
  | 31 => ⟨S8x384x32x32, .f32⟩
  | 32 => ⟨S8x32x32x96, .f32⟩
  | 33 => ⟨S8x96x32x32, .f32⟩
  | 34 => ⟨S1x96x1x1, .f32⟩
  | 35 => ⟨S8x96x32x32, .f32⟩
  | 36 => ⟨S8x96x32x32, .f32⟩
  | 37 => ⟨S8x96x32x32, .f32⟩
  | 38 => ⟨S8x96x32x32, .f32⟩
  | 39 => ⟨S8x96x32x32, .f32⟩
  | 40 => ⟨S8x1x32x32, .f32⟩
  | 41 => ⟨S1x384x96, .f32⟩
  | 42 => ⟨S384x96, .f32⟩
  | 43 => ⟨S1x384, .f32⟩
  | 44 => ⟨S384, .f32⟩
  | 45 => ⟨S1x96x384, .f32⟩
  | 46 => ⟨S96x384, .f32⟩
  | 47 => ⟨S1x96, .f32⟩
  | 48 => ⟨S96, .f32⟩
  | 49 => ⟨S8x32x32x384, .f32⟩
  | 50 => ⟨S8x384x32x32, .f32⟩
  | 51 => ⟨S1x384x1x1, .f32⟩
  | 52 => ⟨S8x384x32x32, .f32⟩
  | 53 => ⟨S8x384x32x32, .f32⟩
  | 54 => ⟨S_, .f32⟩
  | 55 => ⟨S8x384x32x32, .f32⟩
  | 56 => ⟨S8x384x32x32, .f32⟩
  | 57 => ⟨S8x384x32x32, .f32⟩
  | 58 => ⟨S_, .f32⟩
  | 59 => ⟨S_, .f32⟩
  | 60 => ⟨S8x384x32x32, .f32⟩
  | 61 => ⟨S8x384x32x32, .f32⟩
  | 62 => ⟨S8x384x32x32, .f32⟩
  | 63 => ⟨S8x384x32x32, .f32⟩
  | 64 => ⟨S8x32x32x96, .f32⟩
  | 65 => ⟨S8x96x32x32, .f32⟩
  | 66 => ⟨S1x96x1x1, .f32⟩
  | 67 => ⟨S8x96x32x32, .f32⟩
  | 68 => ⟨S8x96x32x32, .f32⟩
  | 69 => ⟨S8x96x32x32, .f32⟩
  | 70 => ⟨S8x96x32x32, .f32⟩
  | 71 => ⟨S8x96x32x32, .f32⟩
  | 72 => ⟨S8x1x32x32, .f32⟩
  | 73 => ⟨S1x384x96, .f32⟩
  | 74 => ⟨S384x96, .f32⟩
  | 75 => ⟨S1x384, .f32⟩
  | 76 => ⟨S384, .f32⟩
  | 77 => ⟨S1x96x384, .f32⟩
  | 78 => ⟨S96x384, .f32⟩
  | 79 => ⟨S1x96, .f32⟩
  | 80 => ⟨S96, .f32⟩
  | 81 => ⟨S8x32x32x384, .f32⟩
  | 82 => ⟨S8x384x32x32, .f32⟩
  | 83 => ⟨S1x384x1x1, .f32⟩
  | 84 => ⟨S8x384x32x32, .f32⟩
  | 85 => ⟨S8x384x32x32, .f32⟩
  | 86 => ⟨S_, .f32⟩
  | 87 => ⟨S8x384x32x32, .f32⟩
  | 88 => ⟨S8x384x32x32, .f32⟩
  | 89 => ⟨S8x384x32x32, .f32⟩
  | 90 => ⟨S_, .f32⟩
  | 91 => ⟨S_, .f32⟩
  | 92 => ⟨S8x384x32x32, .f32⟩
  | 93 => ⟨S8x384x32x32, .f32⟩
  | 94 => ⟨S8x384x32x32, .f32⟩
  | 95 => ⟨S8x384x32x32, .f32⟩
  | 96 => ⟨S8x32x32x96, .f32⟩
  | 97 => ⟨S8x96x32x32, .f32⟩
  | 98 => ⟨S1x96x1x1, .f32⟩
  | 99 => ⟨S8x96x32x32, .f32⟩
  | 100 => ⟨S8x96x32x32, .f32⟩
  | 101 => ⟨S8x96x32x32, .f32⟩
  | 102 => ⟨S8x96x32x32, .f32⟩
  | 103 => ⟨S8x96x32x32, .f32⟩
  | 104 => ⟨S8x1x32x32, .f32⟩
  | 105 => ⟨S1x384x96, .f32⟩
  | 106 => ⟨S384x96, .f32⟩
  | 107 => ⟨S1x384, .f32⟩
  | 108 => ⟨S384, .f32⟩
  | 109 => ⟨S1x96x384, .f32⟩
  | 110 => ⟨S96x384, .f32⟩
  | 111 => ⟨S1x96, .f32⟩
  | 112 => ⟨S96, .f32⟩
  | 113 => ⟨S8x32x32x384, .f32⟩
  | 114 => ⟨S8x384x32x32, .f32⟩
  | 115 => ⟨S1x384x1x1, .f32⟩
  | 116 => ⟨S8x384x32x32, .f32⟩
  | 117 => ⟨S8x384x32x32, .f32⟩
  | 118 => ⟨S_, .f32⟩
  | 119 => ⟨S8x384x32x32, .f32⟩
  | 120 => ⟨S8x384x32x32, .f32⟩
  | 121 => ⟨S8x384x32x32, .f32⟩
  | 122 => ⟨S_, .f32⟩
  | 123 => ⟨S_, .f32⟩
  | 124 => ⟨S8x384x32x32, .f32⟩
  | 125 => ⟨S8x384x32x32, .f32⟩
  | 126 => ⟨S8x384x32x32, .f32⟩
  | 127 => ⟨S8x384x32x32, .f32⟩
  | _ => ⟨S8x96x32x32, .f32⟩

abbrev hbmTy0_2 (i : Nat) : BufTy := match i % 128 with
  | 0 => ⟨S8x32x32x96, .f32⟩
  | 1 => ⟨S8x96x32x32, .f32⟩
  | 2 => ⟨S1x96x1x1, .f32⟩
  | 3 => ⟨S8x96x32x32, .f32⟩
  | 4 => ⟨S8x96x32x32, .f32⟩
  | 5 => ⟨S8x96x32x32, .f32⟩
  | 6 => ⟨S8x96x32x32, .f32⟩
  | 7 => ⟨S8x96x32x32, .f32⟩
  | 8 => ⟨S8x1x32x32, .f32⟩
  | 9 => ⟨S1x384x96, .f32⟩
  | 10 => ⟨S384x96, .f32⟩
  | 11 => ⟨S1x384, .f32⟩
  | 12 => ⟨S384, .f32⟩
  | 13 => ⟨S1x96x384, .f32⟩
  | 14 => ⟨S96x384, .f32⟩
  | 15 => ⟨S1x96, .f32⟩
  | 16 => ⟨S96, .f32⟩
  | 17 => ⟨S8x32x32x384, .f32⟩
  | 18 => ⟨S8x384x32x32, .f32⟩
  | 19 => ⟨S1x384x1x1, .f32⟩
  | 20 => ⟨S8x384x32x32, .f32⟩
  | 21 => ⟨S8x384x32x32, .f32⟩
  | 22 => ⟨S_, .f32⟩
  | 23 => ⟨S8x384x32x32, .f32⟩
  | 24 => ⟨S8x384x32x32, .f32⟩
  | 25 => ⟨S8x384x32x32, .f32⟩
  | 26 => ⟨S_, .f32⟩
  | 27 => ⟨S_, .f32⟩
  | 28 => ⟨S8x384x32x32, .f32⟩
  | 29 => ⟨S8x384x32x32, .f32⟩
  | 30 => ⟨S8x384x32x32, .f32⟩
  | 31 => ⟨S8x384x32x32, .f32⟩
  | 32 => ⟨S8x32x32x96, .f32⟩
  | 33 => ⟨S8x96x32x32, .f32⟩
  | 34 => ⟨S1x96x1x1, .f32⟩
  | 35 => ⟨S8x96x32x32, .f32⟩
  | 36 => ⟨S8x96x32x32, .f32⟩
  | 37 => ⟨S8x96x32x32, .f32⟩
  | 38 => ⟨S8x96x32x32, .f32⟩
  | 39 => ⟨S8x96x32x32, .f32⟩
  | 40 => ⟨S8x1x32x32, .f32⟩
  | 41 => ⟨S1x384x96, .f32⟩
  | 42 => ⟨S384x96, .f32⟩
  | 43 => ⟨S1x384, .f32⟩
  | 44 => ⟨S384, .f32⟩
  | 45 => ⟨S1x96x384, .f32⟩
  | 46 => ⟨S96x384, .f32⟩
  | 47 => ⟨S1x96, .f32⟩
  | 48 => ⟨S96, .f32⟩
  | 49 => ⟨S8x32x32x384, .f32⟩
  | 50 => ⟨S8x384x32x32, .f32⟩
  | 51 => ⟨S1x384x1x1, .f32⟩
  | 52 => ⟨S8x384x32x32, .f32⟩
  | 53 => ⟨S8x384x32x32, .f32⟩
  | 54 => ⟨S_, .f32⟩
  | 55 => ⟨S8x384x32x32, .f32⟩
  | 56 => ⟨S8x384x32x32, .f32⟩
  | 57 => ⟨S8x384x32x32, .f32⟩
  | 58 => ⟨S_, .f32⟩
  | 59 => ⟨S_, .f32⟩
  | 60 => ⟨S8x384x32x32, .f32⟩
  | 61 => ⟨S8x384x32x32, .f32⟩
  | 62 => ⟨S8x384x32x32, .f32⟩
  | 63 => ⟨S8x384x32x32, .f32⟩
  | 64 => ⟨S8x32x32x96, .f32⟩
  | 65 => ⟨S8x96x32x32, .f32⟩
  | 66 => ⟨S1x96x1x1, .f32⟩
  | 67 => ⟨S8x96x32x32, .f32⟩
  | 68 => ⟨S8x96x32x32, .f32⟩
  | 69 => ⟨S8x96x32x32, .f32⟩
  | 70 => ⟨S8x96x32x32, .f32⟩
  | 71 => ⟨S8x96x32x32, .f32⟩
  | 72 => ⟨S_, .f32⟩
  | 73 => ⟨S8, .f32⟩
  | 74 => ⟨S_, .f32⟩
  | 75 => ⟨S8, .f32⟩
  | 76 => ⟨S8, .f32⟩
  | 77 => ⟨S_, .f32⟩
  | 78 => ⟨S8x32x32x8, .f32⟩
  | 79 => ⟨S_, .f32⟩
  | 80 => ⟨S8, .f32⟩
  | 81 => ⟨S_, .f32⟩
  | 82 => ⟨S8, .f32⟩
  | 83 => ⟨S8, .f32⟩
  | 84 => ⟨S8, .f32⟩
  | 85 => ⟨S_, .f32⟩
  | 86 => ⟨S_, .f32⟩
  | 87 => ⟨S_, .f32⟩
  | 88 => ⟨S_, .f32⟩
  | 89 => ⟨S8x96x32x32, .f32⟩
  | 90 => ⟨S8x96x32x32, .f32⟩
  | _ => ⟨S8x96x32x32, .f32⟩

abbrev hbmTy (i : Nat) : BufTy := match i / 128 with
  | 0 => hbmTy0_0 i
  | 1 => hbmTy0_1 i
  | 2 => hbmTy0_2 i
  | _ => ⟨S8x96x32x32, .f32⟩

abbrev bufTy : (tb : Table) → Fin (tcTables nBuf tb) → BufTy
  | .hbm, ⟨i, _⟩ => hbmTy i
  | _, _ => ⟨S8x96x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_values : Ref sig .tc := ⟨.hbm, 51, rfl⟩
abbrev main_indices : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_9 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_10 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_11 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_12 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_13 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_14 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_cst_15 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_cst_16 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_cst_17 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_cst_18 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_cst_19 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_cst_20 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_cst_21 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_cst_22 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_cst_23 : Ref sig .tc := ⟨.hbm, 328, rfl⟩
abbrev main_v286 : Ref sig .tc := ⟨.hbm, 329, rfl⟩
abbrev main_cst_24 : Ref sig .tc := ⟨.hbm, 330, rfl⟩
abbrev main_v287 : Ref sig .tc := ⟨.hbm, 331, rfl⟩
abbrev main_v288 : Ref sig .tc := ⟨.hbm, 332, rfl⟩
abbrev main_cst_25 : Ref sig .tc := ⟨.hbm, 333, rfl⟩
abbrev main_v289 : Ref sig .tc := ⟨.hbm, 334, rfl⟩
abbrev main_cst_26 : Ref sig .tc := ⟨.hbm, 335, rfl⟩
abbrev main_v290 : Ref sig .tc := ⟨.hbm, 336, rfl⟩
abbrev main_cst_27 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_cst_28 : Ref sig .tc := ⟨.hbm, 341, rfl⟩
abbrev main_v294 : Ref sig .tc := ⟨.hbm, 342, rfl⟩
abbrev main_cst_29 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩

abbrev nD : Nat := 1
abbrev τ : Topo := Topo.v7x

variable {F : FTy → Type} [FloatOps F]
-- ==== Proof.BiasesZero.lean ====
/- What the precondition says: every bias is zero. -/
module

public import proofs.«01_k».proof.Pre_biases_zero
public import Idealize.ShloMosaic.PureOps.Ideal.Laws
public import Idealize.ShloMosaic.Lib.ReduceAll
public import Idealize.ShloMosaic.Lib.Affine
public import Idealize.ShloMosaic.Lib.Pointwise

@[expose] public section

noncomputable section

namespace Cert.Moe.Biases

open Idealize.ShloMosaic Cert.Pre_biases_zero

/-- The side conditions the precondition's operations take. -/
instance facts : Cert.Pre_biases_zero.Facts where
  bcast_S_S384 := by decide
  reducesTo_S384_S_d0 := by decide
  h_S_ := by decide
  bcast_S_S96 := by decide
  reducesTo_S96_S_d0 := by decide
  bcast_S_S8 := by decide
  reducesTo_S8_S_d0 := by decide
  bcast_S_S8x384 := by decide
  reducesTo_S8x384_S_d0_1 := by decide
  bcast_S_S8x96 := by decide
  reducesTo_S8x96_S_d0_1 := by decide

instance : Subsingleton S_.Idx := ⟨fun i j => funext fun a => a.elim0⟩

theorem lit_zero : Ideal.ofBits .f32 0x00000000#32 = (0 : EReal) := by
  simp [Ideal.ofBits, Ideal.ieee]

/-- One bias: if the conjunction of its comparisons with zero holds, it is zero. -/
theorem zero_of (s : Shape) (axes : List (Fin s.rank)) (x : FVec Ideal s .f32) (hb : S_.BroadcastsInDim s (![] : Fin 0 → Fin s.rank))
    (hr : s.ReducesTo axes S_) (j : S_.Idx)
    (e : Host.reduce IntOp.andi (cmpf .oeq x (broadcastInDim s ![] hb (constant S_ .f32 0x00000000#32))) (constantI S_ 1 1#1)
      hr Facts.h_S_ j = 1#1) (i : s.Idx) : x i = (0 : EReal) := by
  have h : BitVec.ofBool (decide ((x i : EReal) = Ideal.ofBits .f32 0x00000000#32)) = 1#1 := Host.reduce_andi_all _ _ _ _ j e i
  by_contra hne
  rw [lit_zero, decide_eq_false hne] at h
  exact absurd h (by decide)

/-- The precondition holds only where all five biases are zero. -/
theorem all_zero (a0 : FVec Ideal S8x96x32x32 .f32) (a1 : FVec Ideal S384x96 .f32) (a2 : FVec Ideal S384 .f32)
    (a3 : FVec Ideal S96x384 .f32) (a4 : FVec Ideal S96 .f32) (a5 : FVec Ideal S8x96 .f32) (a6 : FVec Ideal S8 .f32)
    (a7 : FVec Ideal S8x384x96 .f32) (a8 : FVec Ideal S8x384 .f32) (a9 : FVec Ideal S8x96x384 .f32) (a10 : FVec Ideal S8x96 .f32)
    (h : fn (F := Ideal) a0 a1 a2 a3 a4 a5 a6 a7 a8 a9 a10 = fun _ => 1#1) :
    (∀ i, a2 i = (0 : EReal)) ∧ (∀ i, a4 i = (0 : EReal)) ∧ (∀ i, a6 i = (0 : EReal)) ∧ (∀ i, a8 i = (0 : EReal)) ∧
      ∀ i, a10 i = (0 : EReal) := by
  have j : S_.Idx := fun a => a.elim0
  have e := congrFun h j
  obtain ⟨e, h10⟩ := IntOp.andi_eq_one.1 e
  obtain ⟨e, h8⟩ := IntOp.andi_eq_one.1 e
  obtain ⟨e, h6⟩ := IntOp.andi_eq_one.1 e
  obtain ⟨h2, h4⟩ := IntOp.andi_eq_one.1 e
  exact ⟨zero_of _ _ a2 _ _ j h2, zero_of _ _ a4 _ _ j h4, zero_of _ _ a6 _ _ j h6, zero_of _ _ a8 _ _ j h8,
    zero_of _ _ a10 _ _ j h10⟩

end Cert.Moe.Biases

end
-- ==== Proof.Consts.lean ====
/- The float literals of the two programs, as extended reals. -/
module

public import Idealize.ShloMosaic.PureOps.Ideal
public import Idealize.ShloMosaic.Lib.Pointwise

@[expose] public section

noncomputable section

namespace Cert.Moe

open Idealize.ShloMosaic

theorem lit_bot : Ideal.ofBits .f32 0xFF800000#32 = (⊥ : EReal) := by
  simp [Ideal.ofBits, Ideal.ieee]

theorem lit_neg_one : Ideal.ofBits .f32 0xBF800000#32 = (-1 : EReal) := by
  simp [Ideal.ofBits, Ideal.ieee, -EReal.coe_mul]; norm_cast; norm_num

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_eight : Ideal.ofBits .f32 0x41000000#32 = ((8 : ℝ) : EReal) := by
  simp [Ideal.ofBits, Ideal.ieee, -EReal.coe_mul]; norm_num

theorem lit_pixels : Ideal.ofBits .f32 0x46000000#32 = ((8192 : ℝ) : EReal) := by
  simp [Ideal.ofBits, Ideal.ieee, -EReal.coe_mul]; norm_num

theorem lit_per_lane : Ideal.ofBits .f32 0x3C000000#32 = ((1 / 128 : ℝ) : EReal) := by
  simp [Ideal.ofBits, Ideal.ieee, -EReal.coe_mul]; norm_num

theorem lit_per_pixel : Ideal.ofBits .f32 0x39000000#32 = ((1 / 8192 : ℝ) : EReal) := by
  simp [Ideal.ofBits, Ideal.ieee, -EReal.coe_mul]; norm_num

end Cert.Moe

end
-- ==== Proof.Expert.lean ====
/- One feed-forward expert at one pixel. The kernel multiplies both weight matrices by the root of one half and applies
   `t * (erf t + 1)`; the reference applies `h / 2 * erfc (-h / √2)`. Over the extended reals the two agree, infinities
   included: a nonnegative real factor distributes over any sum, and the rest only reorders products. -/
module

public import Idealize.ShloMosaic.PureOps.Ideal
public import Idealize.ShloMosaic.PureOps.Ideal.Laws
public import Idealize.ShloMosaic.Lib.Pointwise

@[expose] public section

noncomputable section

namespace Cert.Moe

open Idealize.ShloMosaic

/-- The root of one half, as the kernel's named constant means it. -/
def rootHalf : EReal := (((Real.sqrt 2)⁻¹ : ℝ) : EReal)

theorem rootHalf_nonneg : (0 : EReal) ≤ rootHalf := by
  unfold rootHalf; exact_mod_cast inv_nonneg.mpr (Real.sqrt_nonneg 2)

theorem rootHalf_ne_top : rootHalf ≠ ⊤ := EReal.coe_ne_top _

theorem rootHalf_sq : rootHalf * rootHalf = ((1 / 2 : ℝ) : EReal) := by
  unfold rootHalf
  rw [← EReal.coe_mul, ← mul_inv, Real.mul_self_sqrt (by norm_num)]
  norm_num

/-- A nonnegative finite factor moves out of a sum, on the right. -/
theorem sum_mul_const {ι : Type} (s : Finset ι) (f : ι → EReal) (a : EReal) (ha : 0 ≤ a) (ht : a ≠ ⊤) :
    ∑ i ∈ s, f i * a = (∑ i ∈ s, f i) * a := by
  classical
  induction s using Finset.induction_on with
  | empty => simp
  | insert i s hi ih =>
    rw [Finset.sum_insert hi, Finset.sum_insert hi, ih, EReal.right_distrib_of_nonneg_of_ne_top ha ht]

/-- The reference's hidden layer before its activation. -/
def hidden (w1 : Fin 384 → Fin 96 → EReal) (x : Fin 96 → EReal) (h : Fin 384) : EReal :=
  ∑ d, w1 h d * x d

/-- The reference's expert at one pixel, output channel `o`. -/
def expert (w1 : Fin 384 → Fin 96 → EReal) (w2 : Fin 96 → Fin 384 → EReal) (x : Fin 96 → EReal) (o : Fin 96) : EReal :=
  ∑ h, ((1 / 2 : ℝ) : EReal) * hidden w1 x h
    * Ideal.erfc (Ideal.div (-hidden w1 x h) (Ideal.sqrt ((2 : ℝ) : EReal))) * w2 o h

/-- The kernel's expert at one pixel, over weights already scaled. -/
def scaledExpert (w1 : Fin 384 → Fin 96 → EReal) (w2 : Fin 96 → Fin 384 → EReal) (x : Fin 96 → EReal) (o : Fin 96) : EReal :=
  ∑ h, w2 o h * (hidden w1 x h * (Ideal.erf (hidden w1 x h) + 1))

theorem hidden_scaled (w1 : Fin 384 → Fin 96 → EReal) (x : Fin 96 → EReal) (h : Fin 384) :
    hidden (fun h d => w1 h d * rootHalf) x h = hidden w1 x h * rootHalf := by
  unfold hidden
  rw [← sum_mul_const _ _ _ rootHalf_nonneg rootHalf_ne_top]
  exact Finset.sum_congr rfl fun d _ => by rw [mul_right_comm]

theorem div_sqrt_two (a : EReal) : Ideal.div a (Ideal.sqrt ((2 : ℝ) : EReal)) = a * rootHalf := by
  have hs : Ideal.sqrt ((2 : ℝ) : EReal) = ((Real.sqrt 2 : ℝ) : EReal) := by
    show (if (2 : ℝ) < 0 then (⊥ : EReal) else _) = _
    rw [if_neg (by norm_num)]
  have h0 : ((Real.sqrt 2 : ℝ) : EReal) ≠ 0 := by
    exact_mod_cast (Real.sqrt_pos.mpr (by norm_num : (0:ℝ) < 2)).ne'
  rw [hs]
  unfold Ideal.div rootHalf
  rw [if_neg h0, EReal.coe_inv]

/-- The kernel's expert over the scaled weights is the reference's over the weights as given. -/
theorem scaledExpert_eq (w1 : Fin 384 → Fin 96 → EReal) (w2 : Fin 96 → Fin 384 → EReal) (x : Fin 96 → EReal) (o : Fin 96) :
    scaledExpert (fun h d => w1 h d * rootHalf) (fun o h => w2 o h * rootHalf) x o = expert w1 w2 x o := by
  unfold scaledExpert expert
  refine Finset.sum_congr rfl fun h _ => ?_
  rw [hidden_scaled, div_sqrt_two, EReal.neg_mul, Ideal.erfc_neg, ← rootHalf_sq, add_comm (Ideal.erf _) 1]
  generalize 1 + Ideal.erf (hidden w1 x h * rootHalf) = G
  generalize hidden w1 x h = H
  ac_rfl

end Cert.Moe

end
-- ==== Proof.Softmax.lean ====
/- The softmax of eight logits over the extended reals. Either the greatest logit is finite, and every probability is
   at least zero and one of them positive; or it is infinite, and every probability is `⊥`. -/
module

public import Idealize.ShloMosaic.PureOps.Ideal
public import Idealize.ShloMosaic.PureOps.Ideal.Laws
public import Idealize.ShloMosaic.Lib.Pointwise

@[expose] public section

noncomputable section

namespace Cert.Moe

open Idealize.ShloMosaic

/-- The greatest of eight values. -/
def top (s : Fin 8 → EReal) : EReal := Finset.univ.sup s

theorem le_top' (s : Fin 8 → EReal) (e : Fin 8) : s e ≤ top s := Finset.le_sup (f := s) (Finset.mem_univ e)

theorem top_attained (s : Fin 8 → EReal) : ∃ e, s e = top s := by
  obtain ⟨e, -, he⟩ := Finset.exists_mem_eq_sup Finset.univ ⟨0, Finset.mem_univ (0 : Fin 8)⟩ s
  exact ⟨e, he.symm⟩

theorem fold_max_eq_top (s : Fin 8 → EReal) : Finset.univ.fold max (⊥ : EReal) s = top s := rfl

/-- The exponentials of the logits less the greatest of them. -/
def expo (l : Fin 8 → EReal) (e : Fin 8) : EReal := Ideal.exp (l e - top l)

/-- The probabilities. -/
def prob (l : Fin 8 → EReal) (e : Fin 8) : EReal := Ideal.div (expo l e) (∑ e', expo l e')

theorem div_zero_zero : Ideal.div 0 0 = ⊥ := by simp [Ideal.div]

theorem prob_bot_of (l : Fin 8 → EReal) (h : ∀ e, l e - top l = ⊥) (e : Fin 8) : prob l e = ⊥ := by
  have hz : ∀ e, expo l e = 0 := fun e => by unfold expo; rw [h e]; rfl
  unfold prob
  simp only [hz, Finset.sum_const_zero, div_zero_zero]

theorem expo_real (l : Fin 8 → EReal) (r : ℝ) (hr : top l = (r : EReal)) (e : Fin 8) :
    ∃ a : ℝ, 0 ≤ a ∧ expo l e = (a : EReal) := by
  have hle : l e ≤ (r : EReal) := hr ▸ le_top' l e
  unfold expo
  rw [hr]
  induction hl : l e with
  | bot => exact ⟨0, le_refl _, by rw [EReal.bot_sub]; rfl⟩
  | top => rw [hl] at hle; exact absurd (top_le_iff.mp hle) (EReal.coe_ne_top r)
  | coe a => exact ⟨Real.exp (a - r), (Real.exp_pos _).le, by rw [← EReal.coe_sub]; rfl⟩

theorem prob_cases (l : Fin 8 → EReal) :
    (∀ e, prob l e = ⊥) ∨ ((∀ e, 0 ≤ prob l e) ∧ ∃ e, 0 < prob l e) := by
  induction hr : top l with
  | bot =>
    left
    exact prob_bot_of l fun e => by
      have : l e = ⊥ := le_bot_iff.mp (hr ▸ le_top' l e)
      rw [this, EReal.bot_sub]
  | top =>
    left
    exact prob_bot_of l fun e => by rw [hr, sub_eq_add_neg, EReal.neg_top, EReal.add_bot]
  | coe r =>
    right
    choose a ha hae using expo_real l r hr
    obtain ⟨k, hk⟩ := top_attained l
    have hk1 : expo l k = ((1 : ℝ) : EReal) := by
      unfold expo
      rw [hk, hr, ← EReal.coe_sub, sub_self]
      show ((Real.exp 0 : ℝ) : EReal) = _
      rw [Real.exp_zero]
    have hsum : ∑ e, expo l e = ((∑ e, a e : ℝ) : EReal) := by
      rw [Finset.sum_congr rfl fun e _ => hae e]
      simp only [Fin.sum_univ_succ, Fin.sum_univ_zero, EReal.coe_add, EReal.coe_zero]
    have hak : a k = 1 := by
      have := (hae k).symm.trans hk1
      exact_mod_cast this
    have hpos : 0 < ∑ e, a e :=
      lt_of_lt_of_le (by rw [hak]; norm_num : 0 < a k) (Finset.single_le_sum (fun e _ => ha e) (Finset.mem_univ k))
    have hprob : ∀ e, prob l e = ((a e * (∑ e, a e)⁻¹ : ℝ) : EReal) := fun e => by
      unfold prob Ideal.div
      rw [hsum, hae e, if_neg (by exact_mod_cast hpos.ne'), EReal.coe_mul, EReal.coe_inv]
    refine ⟨fun e => ?_, k, ?_⟩
    · rw [hprob e]; exact_mod_cast mul_nonneg (ha e) (inv_nonneg.mpr hpos.le)
    · rw [hprob k, hak]; exact_mod_cast mul_pos one_pos (inv_pos.mpr hpos)

end Cert.Moe

end
-- ==== Proof.Select.lean ====
/- The three largest of eight values, chosen in two ways. The kernel takes the first position of the greatest value,
   overwrites it with `-1`, and repeats. The reference sorts stably, greatest first. On values that are all at least
   zero the two choose the same positions in the same order. -/
module

public import proofs.«01_k».proof.Proof.Softmax
public import Idealize.ShloMosaic.PureOps.ShapeOps
public import Idealize.ShloMosaic.Lib.SortFacts
public import Idealize.ShloMosaic.Lib.SortPrefix

@[expose] public section

noncomputable section

namespace Cert.Moe

open Idealize.ShloMosaic

/-- `e` is the first position of the greatest value of `s`. -/
def IsFirst (s : Fin 8 → EReal) (e : Fin 8) : Prop := s e = top s ∧ ∀ e' : Fin 8, e' < e → s e' ≠ top s

/-- The first position of the greatest value exists. -/
theorem exists_first (s : Fin 8 → EReal) : ∃ e, IsFirst s e := by
  classical
  have hne : (Finset.univ.filter fun e => s e = top s).Nonempty := by
    obtain ⟨e, he⟩ := top_attained s
    exact ⟨e, by simpa using he⟩
  refine ⟨(Finset.univ.filter fun e => s e = top s).min' hne, ?_, fun e' he' hs => ?_⟩
  · have := Finset.min'_mem _ hne
    simpa using this
  · exact absurd (Finset.min'_le _ e' (by simpa using hs)) (not_le.mpr he')

/-- The first position of the greatest value. -/
def pick (s : Fin 8 → EReal) : Fin 8 := (exists_first s).choose

theorem pick_spec (s : Fin 8 → EReal) : IsFirst s (pick s) := (exists_first s).choose_spec

theorem isFirst_iff (s : Fin 8 → EReal) (e : Fin 8) : IsFirst s e ↔ e = pick s := by
  refine ⟨fun h => ?_, fun h => h ▸ pick_spec s⟩
  rcases lt_trichotomy e (pick s) with hlt | heq | hgt
  · exact absurd h.1 ((pick_spec s).2 e hlt)
  · exact heq
  · exact absurd (pick_spec s).1 (h.2 _ hgt)

theorem le_pick (s : Fin 8 → EReal) (e : Fin 8) : s e ≤ s (pick s) := (pick_spec s).1 ▸ le_top' s e

theorem lt_pick (s : Fin 8 → EReal) (e : Fin 8) (h : e < pick s) : s e < s (pick s) :=
  lt_of_le_of_ne (le_pick s e) fun he => (pick_spec s).2 e h (he.trans (pick_spec s).1)

/-- The values after a round: the chosen one overwritten with `-1`. -/
def knock (s : Fin 8 → EReal) (e : Fin 8) : EReal := if e = pick s then -1 else s e

/-- What each of the three rounds chooses from. -/
def stage (p : Fin 8 → EReal) : Fin 3 → Fin 8 → EReal
  | 0 => p
  | 1 => knock p
  | 2 => knock (knock p)

/-- The kernel's three choices. -/
def chosen (p : Fin 8 → EReal) (k : Fin 3) : Fin 8 := pick (stage p k)

/-- The reference's order: greater first, and of equals the earlier position. -/
def before (p : Fin 8 → EReal) (k k' : Fin 8) : Bool :=
  decide (p k' < p k) || (decide (p k = p k') && decide (k < k'))

theorem before_total (p : Fin 8 → EReal) : StrictTotalBefore (before p) :=
  StrictTotalBefore.of_key_then_position (fun a b : EReal => decide (b < a)) p (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

/-- A stable sort by the values alone is the sort by the values and then the positions. -/
theorem stableSort_before (p : Fin 8 → EReal) (l : List (Fin 8)) (hl : l.Pairwise (· < ·)) :
    stableSort (fun k k' => decide (p k' < p k)) l = stableSort (before p) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ _).mem_iff.mp hb)
    simp [before, not_lt.mpr hab.le]

theorem sortedFrom_before (p : Fin 8 → EReal) (k : Fin 8) :
    sortedFrom (fun k k' => decide (p k' < p k)) k = sortedFrom (before p) k := by
  have h : sortPositions 8 (fun k k' => decide (p k' < p k)) = sortPositions 8 (before p) :=
    stableSort_before p _ (List.pairwise_lt_finRange 8)
  unfold sortedFrom
  simp only [List.get_eq_getElem, h]
  rfl

section Nonneg

variable (p : Fin 8 → EReal) (hp : ∀ e, 0 ≤ p e)
include hp

theorem neg_one_lt (e : Fin 8) : (-1 : EReal) < p e :=
  lt_of_lt_of_le (by rw [show (-1 : EReal) = ((-1 : ℝ) : EReal) by norm_num]; exact_mod_cast (by norm_num : (-1 : ℝ) < 0)) (hp e)

theorem knock_of_ne (s : Fin 8 → EReal) (e : Fin 8) (h : e ≠ pick s) : knock s e = s e := if_neg h

theorem knock_pick (s : Fin 8 → EReal) : knock s (pick s) = -1 := if_pos rfl

theorem chosen_one_ne : chosen p 1 ≠ chosen p 0 := by
  intro h
  have h1 : knock p (pick (knock p)) = -1 := by
    show knock p (chosen p 1) = -1
    rw [h]; exact knock_pick p hp p
  obtain ⟨e, he⟩ : ∃ e : Fin 8, e ≠ pick p := exists_ne _
  have := le_pick (knock p) e
  rw [h1, knock_of_ne p hp p e he] at this
  exact absurd (neg_one_lt p hp e) (not_lt.mpr this)

theorem stage_two_of_ne (e : Fin 8) (h0 : e ≠ chosen p 0) (h1 : e ≠ chosen p 1) : stage p 2 e = p e := by
  show knock (knock p) e = p e
  rw [show knock (knock p) e = knock p e from knock_of_ne p hp _ e h1,
    show knock p e = p e from knock_of_ne p hp _ e h0]

theorem chosen_two_ne : chosen p 2 ≠ chosen p 0 ∧ chosen p 2 ≠ chosen p 1 := by
  have key : stage p 2 (chosen p 2) ≠ -1 := by
    intro h
    obtain ⟨e, he⟩ : ∃ e : Fin 8, e ∉ ({chosen p 0, chosen p 1} : Finset (Fin 8)) := by
      by_contra hcon
      push Not at hcon
      have hcard := Finset.card_le_card (fun e _ => hcon e : (Finset.univ : Finset (Fin 8)) ⊆ _)
      have := Finset.card_le_two (a := chosen p 0) (b := chosen p 1)
      simp only [Finset.card_univ, Fintype.card_fin] at hcard
      omega
    simp only [Finset.mem_insert, Finset.mem_singleton, not_or] at he
    have hle := le_pick (stage p 2) e
    rw [stage_two_of_ne p hp e he.1 he.2] at hle
    rw [show stage p 2 (pick (stage p 2)) = -1 from h] at hle
    exact absurd (neg_one_lt p hp e) (not_lt.mpr hle)
  have h1 : chosen p 2 ≠ chosen p 1 := fun h => key (by rw [h]; exact knock_pick p hp (knock p))
  refine ⟨fun h => key ?_, h1⟩
  show knock (knock p) (chosen p 2) = -1
  rw [knock_of_ne p hp (knock p) _ h1, h]
  exact knock_pick p hp p

theorem chosen_injective : Function.Injective (chosen p) := by
  have h10 := chosen_one_ne p hp
  have h20 := (chosen_two_ne p hp).1
  have h21 := (chosen_two_ne p hp).2
  intro i j hij
  fin_cases i <;> fin_cases j <;> first | rfl | exact absurd hij ‹_› | exact absurd hij.symm ‹_›

/-- A position not chosen before round `k` does not come before that round's choice. -/
theorem not_before_chosen (k : Fin 3) (e : Fin 8) (h : ∀ j : Fin 3, j < k → e ≠ chosen p j) :
    before p e (chosen p k) = false := by
  have hs : ∀ e : Fin 8, (∀ j : Fin 3, j < k → e ≠ chosen p j) → stage p k e = p e := by
    intro e h
    fin_cases k
    · rfl
    · exact knock_of_ne p hp p e (h 0 (by decide))
    · exact stage_two_of_ne p hp e (h 0 (by decide)) (h 1 (by decide))
  have hk : stage p k (chosen p k) = p (chosen p k) :=
    hs _ fun j hj hjk => absurd (chosen_injective p hp hjk) (ne_of_gt hj)
  have hle := le_pick (stage p k) e
  change stage p k e ≤ stage p k (chosen p k) at hle
  rw [hs e h, hk] at hle
  have hlt : e < chosen p k → p e < p (chosen p k) := fun hek => by
    have := lt_pick (stage p k) e hek
    change stage p k e < stage p k (chosen p k) at this
    rwa [hs e h, hk] at this
  simp only [before, Bool.or_eq_false_iff, Bool.and_eq_false_iff, decide_eq_false_iff_not, not_lt]
  refine ⟨hle, ?_⟩
  by_cases hek : e < chosen p k
  · exact Or.inl (hlt hek).ne
  · exact Or.inr (not_lt.mp hek)

/-- The reference's `k`-th position is the kernel's `k`-th choice. -/
theorem sortedFrom_eq_chosen (k : Fin 3) :
    sortedFrom (fun k k' => decide (p k' < p k)) (k.castLE (by decide : 3 ≤ 8)) = chosen p k := by
  rw [sortedFrom_before]
  refine (before_total p).sortedFrom_eq_of_prefix (by decide) (chosen p) (chosen_injective p hp) (fun i j hij => ?_)
    (fun i e he => not_before_chosen p hp i e fun j _ h => he j h.symm) k
  refine not_before_chosen p hp i _ fun l hl h => ?_
  exact absurd (chosen_injective p hp h) (ne_of_gt (hl.trans hij))

end Nonneg

end Cert.Moe

end
-- ==== Proof.Mix.lean ====
/- The weights of the mix and the selection counts, as the kernel forms them from its three choices and as the reference
   forms them from the first three of the sorted positions, and their equality for the probabilities of a softmax. -/
module

public import proofs.«01_k».proof.Proof.Select
public import Idealize.ShloMosaic.PureOps.Ideal.Laws

@[expose] public section

noncomputable section

namespace Cert.Moe

open Idealize.ShloMosaic

/-- Comparing a position with the least position at which `b` holds, `8` where it does not hold. -/
theorem cmpi_least (b : Fin 8 → Bool) (e : Fin 8) :
    IntOp.cmpi .eq (BitVec.ofNat 32 e)
      (Finset.univ.fold IntOp.minsi 2147483647#32 fun x : Fin 8 => if b x then BitVec.ofNat 32 x else 8#32) =
      BitVec.ofBool (b e && decide (∀ e' : Fin 8, e' < e → b e' = false)) := by
  revert b e
  decide +kernel

/-- One round of the kernel's choice: the comparison is true at the first position of the greatest value. -/
theorem round_hit (s : Fin 8 → EReal) (g : Fin 8 → BitVec 32) (e : Fin 8)
    (h1 : ∀ x, s x = top s → g x = BitVec.ofNat 32 x) (h0 : ∀ x, s x ≠ top s → g x = 8#32) :
    IntOp.cmpi .eq (BitVec.ofNat 32 e) (Finset.univ.fold IntOp.minsi 2147483647#32 g) =
      BitVec.ofBool (decide (e = pick s)) := by
  have hg : g = fun x : Fin 8 => if decide (s x = top s) then BitVec.ofNat 32 x else 8#32 := by
    funext x
    by_cases h : s x = top s
    · rw [h1 x h]; simp [h]
    · rw [h0 x h]; simp [h]
  rw [hg, cmpi_least (fun x => decide (s x = top s)) e]
  congr 1
  rw [Bool.eq_iff_iff]
  simp only [Bool.and_eq_true, decide_eq_true_eq, decide_eq_false_iff_not]
  exact isFirst_iff s e

/-- The probabilities kept by the three choices, and zero elsewhere. -/
def keep (p : Fin 8 → EReal) (e : Fin 8) : EReal :=
  (if e = chosen p 0 then p e else 0) + (if e = chosen p 1 then p e else 0) + (if e = chosen p 2 then p e else 0)

/-- The kernel's weights. -/
def mix (p : Fin 8 → EReal) (e : Fin 8) : EReal := Ideal.div (keep p e) (∑ e', keep p e')

/-- The kernel's selection counts. -/
def count (p : Fin 8 → EReal) (e : Fin 8) : EReal :=
  (if e = chosen p 0 then 1 else 0) + (if e = chosen p 1 then 1 else 0) + (if e = chosen p 2 then 1 else 0)

/-- The reference's three positions. -/
def sorted (p : Fin 8 → EReal) (k : Fin 3) : Fin 8 :=
  sortedFrom (fun k k' => decide (p k' < p k)) (k.castLE (by decide : 3 ≤ 8))

/-- The reference's weights. -/
def sortedMix (p : Fin 8 → EReal) (e : Fin 8) : EReal :=
  ∑ k, (if sorted p k = e then 1 else 0) * Ideal.div (p (sorted p k)) (∑ k', p (sorted p k'))

/-- The reference's selection counts. -/
def sortedCount (p : Fin 8 → EReal) (e : Fin 8) : EReal := ∑ k, if sorted p k = e then 1 else 0

theorem keep_sum (p : Fin 8 → EReal) : ∑ e, keep p e = ∑ k, p (chosen p k) := by
  unfold keep
  rw [Finset.sum_add_distrib, Finset.sum_add_distrib, Fin.sum_univ_three]
  simp only [Finset.sum_ite_eq', Finset.mem_univ, if_true]

theorem count_nonneg (p : Fin 8 → EReal) (e : Fin 8) : 0 ≤ count p e := by
  unfold count
  refine add_nonneg (add_nonneg ?_ ?_) ?_ <;> split_ifs <;> simp

theorem count_pos (p : Fin 8 → EReal) : 0 < count p (chosen p 0) := by
  unfold count
  rw [if_pos rfl, add_assoc]
  refine add_pos_of_pos_of_nonneg zero_lt_one (add_nonneg ?_ ?_) <;> split_ifs <;> simp

theorem sortedCount_nonneg (p : Fin 8 → EReal) (e : Fin 8) : 0 ≤ sortedCount p e :=
  Finset.sum_nonneg fun k _ => by split_ifs <;> simp

theorem sortedCount_pos (p : Fin 8 → EReal) : 0 < sortedCount p (sorted p 0) := by
  have h := Finset.single_le_sum (s := Finset.univ) (f := fun k => if sorted p k = sorted p 0 then (1 : EReal) else 0)
    (fun k _ => by split_ifs <;> simp) (Finset.mem_univ 0)
  refine lt_of_lt_of_le ?_ h
  simp

section Nonneg

variable (p : Fin 8 → EReal) (hp : ∀ e, 0 ≤ p e)
include hp

theorem sorted_eq (k : Fin 3) : sorted p k = chosen p k := sortedFrom_eq_chosen p hp k

theorem sortedCount_eq (e : Fin 8) : sortedCount p e = count p e := by
  unfold sortedCount count
  simp only [sorted_eq p hp, Fin.sum_univ_three, eq_comm (b := e)]

theorem sortedMix_eq (h : ∃ e, 0 < p e) (e : Fin 8) : sortedMix p e = mix p e := by
  have hpos : 0 < ∑ k, p (chosen p k) := by
    obtain ⟨e, he⟩ := h
    refine lt_of_lt_of_le (lt_of_lt_of_le he (le_pick p e)) ?_
    exact Finset.single_le_sum (f := fun k => p (chosen p k)) (fun k _ => hp _) (Finset.mem_univ 0)
  unfold sortedMix mix
  rw [keep_sum]
  simp only [sorted_eq p hp]
  have hdiv : ∀ a, Ideal.div a (∑ k, p (chosen p k)) = a * (∑ k, p (chosen p k))⁻¹ := fun a => if_neg hpos.ne'
  simp only [hdiv]
  have h10 := chosen_one_ne p hp
  have h20 := (chosen_two_ne p hp).1
  have h21 := (chosen_two_ne p hp).2
  generalize (∑ k, p (chosen p k))⁻¹ = q
  rw [Fin.sum_univ_three]
  unfold keep
  by_cases e0 : e = chosen p 0
  · subst e0; simp [h10, h20, Ne.symm h10, Ne.symm h20]
  by_cases e1 : e = chosen p 1
  · subst e1; simp [h10, h21, Ne.symm h10, Ne.symm h21]
  by_cases e2 : e = chosen p 2
  · subst e2; simp [h20, h21, Ne.symm h20, Ne.symm h21]
  simp [e0, e1, e2, Ne.symm e0, Ne.symm e1, Ne.symm e2]

end Nonneg

section Bottom

variable (p : Fin 8 → EReal) (hp : ∀ e, p e = ⊥)
include hp

theorem div_bot (a : EReal) : Ideal.div a ⊥ = 0 := by
  unfold Ideal.div
  rw [if_neg (by simp), EReal.inv_bot, mul_zero]

theorem sortedMix_bot (e : Fin 8) : sortedMix p e = 0 := by
  unfold sortedMix
  simp only [hp, Fin.sum_univ_three, EReal.bot_add, div_bot p hp, mul_zero, add_zero]

theorem mix_bot (e : Fin 8) : mix p e = 0 := by
  unfold mix
  rw [keep_sum]
  simp only [hp, Fin.sum_univ_three, EReal.bot_add, div_bot p hp]

end Bottom

/-- The weights of the probabilities of a softmax are the same both ways. -/
theorem sortedMix_prob (l : Fin 8 → EReal) (e : Fin 8) : sortedMix (prob l) e = mix (prob l) e := by
  rcases prob_cases l with h | ⟨h, hpos⟩
  · rw [sortedMix_bot _ h, mix_bot _ h]
  · exact sortedMix_eq _ h hpos e

end Cert.Moe

end
-- ==== Proof.Balance.lean ====
/- The balance term: eight times the sum over the experts of the mean probability times the mean selection count. The
   means agree between the two ways of counting: where a pixel's probabilities are `⊥`, every mean probability is `⊥`,
   and the term is `⊥` for any counts. -/
module

public import proofs.«01_k».proof.Proof.Mix

@[expose] public section

noncomputable section

namespace Cert.Moe

open Idealize.ShloMosaic

/-- The reciprocal of the number of pixels. -/
def perPixel : EReal := ((1 / 8192 : ℝ) : EReal)

theorem perPixel_pos : 0 < perPixel := by
  unfold perPixel
  exact_mod_cast (by norm_num : (0 : ℝ) < 1 / 8192)

/-- The balance term of the sums of the probabilities and of the counts. -/
def balance (P L : Fin 8 → EReal) : EReal := ((8 : ℝ) : EReal) * ∑ e, P e * perPixel * (L e * perPixel)

theorem sum_eq_bot {ι : Type} [Fintype ι] (f : ι → EReal) (i : ι) (h : f i = ⊥) : ∑ i, f i = ⊥ := by
  classical
  rw [← Finset.add_sum_erase _ f (Finset.mem_univ i), h, EReal.bot_add]

theorem balance_bot (P L : Fin 8 → EReal) (hP : ∀ e, P e = ⊥) (e : Fin 8) (hL : 0 < L e) : balance P L = ⊥ := by
  have hsum : ∑ e, P e * perPixel * (L e * perPixel) = ⊥ := by
    refine sum_eq_bot (fun e => P e * perPixel * (L e * perPixel)) e ?_
    show P e * perPixel * (L e * perPixel) = ⊥
    rw [hP e, EReal.bot_mul_of_pos perPixel_pos, EReal.bot_mul_of_pos (EReal.mul_pos hL perPixel_pos)]
  unfold balance
  rw [hsum]
  exact EReal.coe_mul_bot_of_pos (by norm_num)

theorem sum_pos_of {ι : Type} [Fintype ι] (f : ι → EReal) (hf : ∀ i, 0 ≤ f i) (i : ι) (h : 0 < f i) : 0 < ∑ i, f i :=
  lt_of_lt_of_le h (Finset.single_le_sum (fun i _ => hf i) (Finset.mem_univ i))

theorem balance_sorted {ι : Type} [Fintype ι] (l : ι → Fin 8 → EReal) :
    balance (fun e => ∑ i, prob (l i) e) (fun e => ∑ i, sortedCount (prob (l i)) e) =
      balance (fun e => ∑ i, prob (l i) e) (fun e => ∑ i, count (prob (l i)) e) := by
  by_cases h : ∃ i, ∀ e, prob (l i) e = ⊥
  · obtain ⟨i, hi⟩ := h
    have hP : ∀ e, (∑ i, prob (l i) e) = ⊥ := fun e => sum_eq_bot _ i (hi e)
    rw [balance_bot _ _ hP (sorted (prob (l i)) 0)
        (sum_pos_of _ (fun i => sortedCount_nonneg _ _) i (sortedCount_pos _)),
      balance_bot _ _ hP (chosen (prob (l i)) 0)
        (sum_pos_of _ (fun i => count_nonneg _ _) i (count_pos _))]
  · have hL : (fun e => ∑ i, sortedCount (prob (l i)) e) = fun e => ∑ i, count (prob (l i)) e := by
      funext e
      refine Finset.sum_congr rfl fun i _ => ?_
      rcases prob_cases (l i) with hb | ⟨hn, -⟩
      · exact absurd ⟨i, hb⟩ h
      · exact sortedCount_eq _ hn e
    rw [hL]

end Cert.Moe

end
-- ==== Proof.KernelEntry.lean ====
/- The values the kernel computes of one image, at an entry: the probabilities, the weights of the mix, the counts, and
   the stored image. -/
module

public import proofs.«01_k».proof.Proof.Gen.KernelIdeal.Frame
public import proofs.«01_k».proof.Proof.Consts
public import proofs.«01_k».proof.Proof.Expert
public import proofs.«01_k».proof.Proof.Balance
public import Idealize.ShloMosaic.Lib.Pipeline.ValueKit
public import Idealize.ShloMosaic.Lib.Pointwise

@[expose] public section

set_option maxRecDepth 16384

noncomputable section

namespace Cert.Moe
open Cert.KernelIdeal Cert.KernelIdeal.Gen Idealize.ShloMosaic Idealize.ShloMosaic.TcCoe Idealize.SL.Sem
open Idealize.ShloMosaic.Pipeline (Dat)

/-- The logits of the experts at pixel `n` of an image. -/
def logits (X : Vec Ideal S1x96x1024 .f32) (gw : Vec Ideal S8x96 .f32) (n : Fin 1024) (e : Fin 8) : EReal :=
  ∑ d : Fin 96, gw (ix2 e d) * X (ix3 0 d n)

/-- The probabilities of the experts at pixel `n` of an image. -/
def probs (X : Vec Ideal S1x96x1024 .f32) (gw : Vec Ideal S8x96 .f32) (n : Fin 1024) : Fin 8 → EReal :=
  prob (logits X gw n)

theorem pay26_apply (X : Vec Ideal S1x96x1024 .f32) (gw : Vec Ideal S8x96 .f32) (e : Fin 8) (n : Fin 1024) :
    k0_pay26 X gw (ix2 e n) = probs X gw n e := by
  pointwise [k0_pay26, k0_pay24]
  rw [lit_bot]
  rfl

theorem iota_apply (e : Fin 8) (n : Fin 1024) :
    iota .tc S8x1024 32 [0] iota_S8x1024_d0_w32 (ix2 e n) = BitVec.ofNat 32 e := by
  pointwise

theorem pay27_apply (X : Vec Ideal S1x96x1024 .f32) (gw : Vec Ideal S8x96 .f32) (e : Fin 8) (n : Fin 1024) :
    k0_pay27 X gw (ix2 e n) = BitVec.ofBool (decide (e = chosen (probs X gw n) 0)) := by
  pointwise [k0_pay27]
  simp only [pay26_apply, lit_bot, fold_max_eq_top, iota_apply]
  refine round_hit (probs X gw n) _ e (fun x h => ?_) (fun x h => ?_)
  · rw [if_pos h]
  · rw [if_neg h]

theorem select_ofBool (q : Bool) (a b : EReal) : Scalar.select (BitVec.ofBool q) a b = if q = true then a else b := by
  cases q <;> rfl

theorem pay30_apply (X : Vec Ideal S1x96x1024 .f32) (gw : Vec Ideal S8x96 .f32) (e : Fin 8) (n : Fin 1024) :
    k0_pay30 X gw (ix2 e n) = stage (probs X gw n) 1 e := by
  pointwise [k0_pay30]
  rw [pay27_apply, pay26_apply, lit_neg_one, select_ofBool]
  simp only [decide_eq_true_eq]
  rfl

theorem pay31_apply (X : Vec Ideal S1x96x1024 .f32) (gw : Vec Ideal S8x96 .f32) (n : Fin 1024) :
    k0_pay31 X gw (ix2 0 n) = top (stage (probs X gw n) 1) := by
  pointwise [k0_pay31]
  simp only [pay30_apply, lit_bot, fold_max_eq_top]

theorem pay28_apply (X : Vec Ideal S1x96x1024 .f32) (gw : Vec Ideal S8x96 .f32) (e : Fin 8) (n : Fin 1024) :
    k0_pay28 X gw (ix2 e n) = if e = chosen (probs X gw n) 0 then probs X gw n e else 0 := by
  pointwise [k0_pay28]
  rw [pay27_apply, pay26_apply, select_ofBool]
  simp only [decide_eq_true_eq]

theorem sitofp_ofBool (q : Bool) :
    FloatOps.sitofp (F := Ideal) .f32 (BitVec.setWidth 32 (BitVec.ofBool q)) = if q = true then (1 : EReal) else 0 := by
  cases q
  · show (((BitVec.setWidth 32 (BitVec.ofBool false)).toInt : ℝ) : EReal) = _
    simp
  · show (((BitVec.setWidth 32 (BitVec.ofBool true)).toInt : ℝ) : EReal) = _
    simp

theorem pay29_apply (X : Vec Ideal S1x96x1024 .f32) (gw : Vec Ideal S8x96 .f32) (e : Fin 8) (n : Fin 1024) :
    k0_pay29 X gw (ix2 e n) = if e = chosen (probs X gw n) 0 then 1 else 0 := by
  pointwise [k0_pay29]
  rw [pay27_apply, sitofp_ofBool]
  simp only [decide_eq_true_eq]

/-- The row of every entry, as a 32-bit word. -/
def rowIndex : IVec S8x1024 32 := iota .tc S8x1024 32 [0] iota_S8x1024_d0_w32

theorem rowIndex_apply (e : Fin 8) (n : Fin 1024) : rowIndex (ix2 e n) = BitVec.ofNat 32 e := iota_apply e n

theorem pay32_apply (X : Vec Ideal S1x96x1024 .f32) (gw : Vec Ideal S8x96 .f32) (e : Fin 8) (n : Fin 1024) :
    k0_pay32 rowIndex (k0_pay30 X gw) (k0_pay31 X gw) (ix2 e n) =
      BitVec.ofBool (decide (e = chosen (probs X gw n) 1)) := by
  pointwise [k0_pay32]
  simp only [pay30_apply, pay31_apply, rowIndex_apply]
  refine round_hit (stage (probs X gw n) 1) _ e (fun x h => ?_) (fun x h => ?_)
  · rw [if_pos h]
  · rw [if_neg h]

theorem pay33_apply (X : Vec Ideal S1x96x1024 .f32) (gw : Vec Ideal S8x96 .f32) (e : Fin 8) (n : Fin 1024) :
    k0_pay33 rowIndex (k0_pay30 X gw) (k0_pay31 X gw) (ix2 e n) =
      BitVec.ofBool (decide (e = chosen (probs X gw n) 2)) := by
  have hs : ∀ x, Scalar.select (BitVec.ofBool (decide (x = chosen (probs X gw n) 1))) (-1)
      (stage (probs X gw n) 1 x) = stage (probs X gw n) 2 x := fun x => by
    rw [select_ofBool]; simp only [decide_eq_true_eq]; rfl
  pointwise [k0_pay33]
  simp only [pay32_apply, pay30_apply, rowIndex_apply, lit_bot, lit_neg_one, hs, fold_max_eq_top]
  refine round_hit (stage (probs X gw n) 2) _ e (fun x h => ?_) (fun x h => ?_)
  · rw [if_pos h]
  · rw [if_neg h]

/-- The weights of the mix at every pixel of an image. -/
def mixAt (X : Vec Ideal S1x96x1024 .f32) (gw : Vec Ideal S8x96 .f32) : FVec Ideal S8x1024 .f32 :=
  k0_pay35 rowIndex (k0_pay26 X gw) (k0_pay28 X gw) (k0_pay30 X gw) (k0_pay31 X gw)

theorem mixAt_apply (X : Vec Ideal S1x96x1024 .f32) (gw : Vec Ideal S8x96 .f32) (e : Fin 8) (n : Fin 1024) :
    mixAt X gw (ix2 e n) = mix (probs X gw n) e := by
  unfold mixAt
  pointwise [k0_pay35]
  simp only [pay32_apply, pay33_apply, pay26_apply, pay28_apply, select_ofBool, decide_eq_true_eq]
  rfl

/-- The selection counts at every pixel of an image. -/
def countAt (X : Vec Ideal S1x96x1024 .f32) (gw : Vec Ideal S8x96 .f32) : FVec Ideal S8x1024 .f32 :=
  k0_pay34 rowIndex (k0_pay29 X gw) (k0_pay30 X gw) (k0_pay31 X gw)

theorem countAt_apply (X : Vec Ideal S1x96x1024 .f32) (gw : Vec Ideal S8x96 .f32) (e : Fin 8) (n : Fin 1024) :
    countAt X gw (ix2 e n) = count (probs X gw n) e := by
  unfold countAt
  pointwise [k0_pay34]
  simp only [pay32_apply, pay33_apply, pay29_apply, sitofp_ofBool, decide_eq_true_eq]
  rfl

theorem pay36_apply (v17 : FVec Ideal S8x1024 .f32) (a : Vec Ideal S8x128 .f32) (e : Fin 8) (l : Fin 128) :
    k0_pay36 v17 a (ix2 e l) = a (ix2 e l) + ∑ n : Fin 1024, v17 (ix2 e n) := by
  pointwise [k0_pay36]

theorem pay37_apply (v71 : FVec Ideal S8x1024 .f32) (a : Vec Ideal S8x128 .f32) (e : Fin 8) (l : Fin 128) :
    k0_pay37 v71 a (ix2 e l) = a (ix2 e l) + ∑ n : Fin 1024, v71 (ix2 e n) := by
  pointwise [k0_pay37]

/-- The rows of the stacked first weights that belong to the `c`-th pair of weights. -/
def chunk (w1 : Vec Ideal S3456x96 .bf16) (c : Fin 9) (h : Fin 384) (d : Fin 96) : EReal :=
  w1 (ix2 (⟨384 * c + h, by omega⟩ : Fin 3456) d)

/-- One slab of second weights as a matrix. -/
def plane (w2 : Vec Ideal S1x96x384 .bf16) (o : Fin 96) (h : Fin 384) : EReal := w2 (ix3 0 o h)

/-- The channels of one pixel. -/
def column (X : Vec Ideal S1x96x1024 .f32) (n : Fin 1024) (d : Fin 96) : EReal := X (ix3 0 d n)

/-- The contribution of the `c`-th pair of weights at a pixel. -/
def part (X : Vec Ideal S1x96x1024 .f32) (w1 : Vec Ideal S3456x96 .bf16) (w2 : Vec Ideal S1x96x384 .bf16) (c : Fin 9)
    (o : Fin 96) (n : Fin 1024) : EReal :=
  scaledExpert (chunk w1 c) (plane w2) (column X n) o

/-- The image the body stores, of one image, the gate's weights, and the nine stacked pairs of weights. -/
def imageAt (X : Vec Ideal S1x96x1024 .f32) (gw : Vec Ideal S8x96 .f32) (w1 : Vec Ideal S3456x96 .bf16)
    (w2 : Fin 9 → Vec Ideal S1x96x384 .bf16) : FVec Ideal S1x96x1024 .f32 :=
  k0_pay45 (k0_pay44 (mixAt X gw) (k0_pay38 (k0_pay25 X) w1)
    (k0_pay41 (mixAt X gw) (k0_pay38 (k0_pay25 X) w1)
      (k0_pay39 (k0_pay24 X) (k0_pay25 X) (mixAt X gw) w1 (w2 0) (w2 1)) (k0_pay40 (k0_pay25 X) w1) (w2 2) (w2 3) (w2 4))
    (k0_pay42 (w2 5)) (k0_pay43 (k0_pay38 (k0_pay25 X) w1)) (constant S96x1024 .f32 0#32) (w2 6) (w2 7) (w2 8))

theorem pay38_apply (X : Vec Ideal S1x96x1024 .f32) (w1 : Vec Ideal S3456x96 .bf16) (r : Fin 3456) (n : Fin 1024) :
    k0_pay38 (k0_pay25 X) w1 (ix2 r n) = ∑ d : Fin 96, w1 (ix2 r d) * column X n d := by
  pointwise [k0_pay38, k0_pay25, k0_pay24]
  rfl

theorem part_eq (X : Vec Ideal S1x96x1024 .f32) (w1 : Vec Ideal S3456x96 .bf16) (w2 : Vec Ideal S1x96x384 .bf16)
    (c : Fin 9) (o : Fin 96) (n : Fin 1024) (r : Fin 384 → Fin 3456) (hr : ∀ h, (r h : ℕ) = 384 * c + h) :
    part X w1 w2 c o n = ∑ h : Fin 384, w2 (ix3 0 o h) * (k0_pay38 (k0_pay25 X) w1 (ix2 (r h) n) *
      (FloatOps.erf (F := Ideal) (φ := .f32) (k0_pay38 (k0_pay25 X) w1 (ix2 (r h) n)) + 1)) := by
  simp only [pay38_apply]
  have hrow : ∀ h, r h = ⟨384 * c + h, by omega⟩ := fun h => Fin.ext (hr h)
  simp only [hrow]
  rfl

theorem pay39_apply (X : Vec Ideal S1x96x1024 .f32) (gw : Vec Ideal S8x96 .f32) (w1 : Vec Ideal S3456x96 .bf16)
    (a b : Vec Ideal S1x96x384 .bf16) (o : Fin 96) (n : Fin 1024) :
    k0_pay39 (k0_pay24 X) (k0_pay25 X) (mixAt X gw) w1 a b (ix2 o n) =
      column X n o + part X w1 a 0 o n + part X w1 b 1 o n * mix (probs X gw n) 0 := by
  rw [part_eq X w1 a 0 o n (fun x => ⟨x, by omega⟩) (fun x => by simp),
    part_eq X w1 b 1 o n (fun x => ⟨384 + x, by omega⟩) (fun x => by simp)]
  pointwise [k0_pay39, k0_pay24]
  rw [mixAt_apply]
  rfl

theorem pay41_apply (X : Vec Ideal S1x96x1024 .f32) (gw : Vec Ideal S8x96 .f32) (w1 : Vec Ideal S3456x96 .bf16)
    (y : FVec Ideal S96x1024 .f32) (a b d : Vec Ideal S1x96x384 .bf16) (o : Fin 96) (n : Fin 1024) :
    k0_pay41 (mixAt X gw) (k0_pay38 (k0_pay25 X) w1) y (k0_pay40 (k0_pay25 X) w1) a b d (ix2 o n) =
      y (ix2 o n) + part X w1 a 2 o n * mix (probs X gw n) 1 + part X w1 b 3 o n * mix (probs X gw n) 2 +
        part X w1 d 4 o n * mix (probs X gw n) 3 := by
  rw [part_eq X w1 a 2 o n (fun x => ⟨768 + x, by omega⟩) (fun x => by simp),
    part_eq X w1 b 3 o n (fun x => ⟨1152 + x, by omega⟩) (fun x => by simp),
    part_eq X w1 d 4 o n (fun x => ⟨1536 + x, by omega⟩) (fun x => by simp)]
  pointwise [k0_pay41, k0_pay40]
  simp only [mixAt_apply]

theorem pay44_apply (X : Vec Ideal S1x96x1024 .f32) (gw : Vec Ideal S8x96 .f32) (w1 : Vec Ideal S3456x96 .bf16)
    (y : FVec Ideal S96x1024 .f32) (a b d f : Vec Ideal S1x96x384 .bf16) (o : Fin 96) (n : Fin 1024) :
    k0_pay44 (mixAt X gw) (k0_pay38 (k0_pay25 X) w1) y (k0_pay42 a) (k0_pay43 (k0_pay38 (k0_pay25 X) w1))
        (constant S96x1024 .f32 0#32) b d f (ix2 o n) =
      y (ix2 o n) + part X w1 a 5 o n * mix (probs X gw n) 4 + part X w1 b 6 o n * mix (probs X gw n) 5 +
        part X w1 d 7 o n * mix (probs X gw n) 6 + part X w1 f 8 o n * mix (probs X gw n) 7 := by
  rw [part_eq X w1 a 5 o n (fun x => ⟨1920 + x, by omega⟩) (fun x => by simp),
    part_eq X w1 b 6 o n (fun x => ⟨2304 + x, by omega⟩) (fun x => by simp),
    part_eq X w1 d 7 o n (fun x => ⟨2688 + x, by omega⟩) (fun x => by simp),
    part_eq X w1 f 8 o n (fun x => ⟨3072 + x, by omega⟩) (fun x => by simp)]
  pointwise [k0_pay44, k0_pay42, k0_pay43]
  simp only [mixAt_apply]

/-- The stored image at a pixel: the input, the shared pair's contribution, and the experts' by their weights. -/
theorem imageAt_apply (X : Vec Ideal S1x96x1024 .f32) (gw : Vec Ideal S8x96 .f32) (w1 : Vec Ideal S3456x96 .bf16)
    (w2 : Fin 9 → Vec Ideal S1x96x384 .bf16) (o : Fin 96) (n : Fin 1024) :
    imageAt X gw w1 w2 (ix3 0 o n) = column X n o + part X w1 (w2 0) 0 o n +
      part X w1 (w2 1) 1 o n * mix (probs X gw n) 0 + part X w1 (w2 2) 2 o n * mix (probs X gw n) 1 +
      part X w1 (w2 3) 3 o n * mix (probs X gw n) 2 + part X w1 (w2 4) 4 o n * mix (probs X gw n) 3 +
      part X w1 (w2 5) 5 o n * mix (probs X gw n) 4 + part X w1 (w2 6) 6 o n * mix (probs X gw n) 5 +
      part X w1 (w2 7) 7 o n * mix (probs X gw n) 6 + part X w1 (w2 8) 8 o n * mix (probs X gw n) 7 := by
  unfold imageAt
  pointwise [k0_pay45]
  rw [pay44_apply, pay41_apply, pay39_apply]

end Cert.Moe

end
-- ==== Proof.KernelState.lean ====
/- What the body leaves at each grid point: the block of images, the stacked weights, and the running sums. -/
module

public import proofs.«01_k».proof.Proof.Gen.KernelIdeal.Frame
public import proofs.«01_k».proof.Proof.KernelEntry
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Moe
open Cert.KernelIdeal Cert.KernelIdeal.Gen Idealize.ShloMosaic Idealize.ShloMosaic.TcCoe Idealize.SL.Sem
open Idealize.ShloMosaic.Pipeline (Dat)

/-- The two images of a block. -/
def first (X : Vec Ideal S2x96x1024 .f32) : Vec Ideal S1x96x1024 .f32 :=
  View.ld X (Rect.unit ![0, 0, 0] ![1, 96, 1024] inb_S2x96x1024_S1x96x1024_0_0_0)

def second (X : Vec Ideal S2x96x1024 .f32) : Vec Ideal S1x96x1024 .f32 :=
  View.ld X (Rect.unit ![1, 0, 0] ![1, 96, 1024] inb_S2x96x1024_S1x96x1024_1_0_0)

/-- The nine slabs of second weights. -/
def slab (w2 : Vec Ideal S9x96x384 .bf16) : Fin 9 → Vec Ideal S1x96x384 .bf16 :=
  ![View.ld w2 (Rect.unit ![0, 0, 0] ![1, 96, 384] inb_S9x96x384_S1x96x384_0_0_0),
    View.ld w2 (Rect.unit ![1, 0, 0] ![1, 96, 384] inb_S9x96x384_S1x96x384_1_0_0),
    View.ld w2 (Rect.unit ![2, 0, 0] ![1, 96, 384] inb_S9x96x384_S1x96x384_2_0_0),
    View.ld w2 (Rect.unit ![3, 0, 0] ![1, 96, 384] inb_S9x96x384_S1x96x384_3_0_0),
    View.ld w2 (Rect.unit ![4, 0, 0] ![1, 96, 384] inb_S9x96x384_S1x96x384_4_0_0),
    View.ld w2 (Rect.unit ![5, 0, 0] ![1, 96, 384] inb_S9x96x384_S1x96x384_5_0_0),
    View.ld w2 (Rect.unit ![6, 0, 0] ![1, 96, 384] inb_S9x96x384_S1x96x384_6_0_0),
    View.ld w2 (Rect.unit ![7, 0, 0] ![1, 96, 384] inb_S9x96x384_S1x96x384_7_0_0),
    View.ld w2 (Rect.unit ![8, 0, 0] ![1, 96, 384] inb_S9x96x384_S1x96x384_8_0_0)]

/-- The stored block: the two images, one after the other. -/
def images (X : Vec Ideal S2x96x1024 .f32) (gw : Vec Ideal S8x96 .f32) (w1 : Vec Ideal S3456x96 .bf16)
    (w2 : Vec Ideal S9x96x384 .bf16) : Vec Ideal S2x96x1024 .f32 :=
  View.canon [⟨Rect.unit ![1, 0, 0] ![1, 96, 1024] inb_S2x96x1024_S1x96x1024_1_0_0, imageAt (second X) gw w1 (slab w2)⟩,
    ⟨Rect.unit ![0, 0, 0] ![1, 96, 1024] inb_S2x96x1024_S1x96x1024_0_0_0, imageAt (first X) gw w1 (slab w2)⟩]

/-- The upper and the lower eight rows of the running sums. -/
abbrev upper : Rect S16x128 := Rect.unit ![0, 0] ![8, 128] inb_S16x128_S8x128_0_0
abbrev lower : Rect S16x128 := Rect.unit ![8, 0] ![8, 128] inb_S16x128_S8x128_8_0

/-- The running sums after a block: the probabilities' in the upper rows, the counts' in the lower. -/
def accStep (X : Vec Ideal S2x96x1024 .f32) (gw : Vec Ideal S8x96 .f32) (acc : Vec Ideal S16x128 .f32) :
    Vec Ideal S16x128 .f32 :=
  View.canon [⟨lower, k0_pay37 (countAt (second X) gw) (k0_pay37 (countAt (first X) gw) (View.ld acc lower))⟩,
    ⟨upper, k0_pay36 (k0_pay26 (second X) gw) (k0_pay36 (k0_pay26 (first X) gw) (View.ld acc upper))⟩]

theorem disjoint_lower_upper : Disjoint lower.set upper.set :=
  Rect.unit_disjoint (s := S16x128) 0 (.inr (by decide))

theorem readCov_lower_upper (v : View sig .tc .vmem S16x128 .f32) (w) (L : List (View.Piece (Elt Ideal) S16x128 .f32)) :
    v.readCov (⟨lower, w⟩ :: L) upper.toLoadRect = v.readCov L upper.toLoadRect :=
  View.readCov_cons_of_disjoint v _ L _ disjoint_lower_upper

theorem readCov_upper_lower (v : View sig .tc .vmem S16x128 .f32) (w) (L : List (View.Piece (Elt Ideal) S16x128 .f32)) :
    v.readCov (⟨upper, w⟩ :: L) lower.toLoadRect = v.readCov L lower.toLoadRect :=
  View.readCov_cons_of_disjoint v _ L _ disjoint_lower_upper.symm

theorem readCov_upper (v : View sig .tc .vmem S16x128 .f32) (w : upper.shape.Idx → Elt Ideal .f32)
    (L : List (View.Piece (Elt Ideal) S16x128 .f32)) : v.readCov (⟨upper, w⟩ :: L) upper.toLoadRect = w :=
  View.readCov_cons_toLoadRect v upper w L

theorem readCov_lower (v : View sig .tc .vmem S16x128 .f32) (w : lower.shape.Idx → Elt Ideal .f32)
    (L : List (View.Piece (Elt Ideal) S16x128 .f32)) : v.readCov (⟨lower, w⟩ :: L) lower.toLoadRect = w :=
  View.readCov_cons_toLoadRect v lower w L

theorem readCov_fill_upper (v : View sig .tc .vmem S16x128 .f32) (Z : Vec Ideal S16x128 .f32) :
    v.readCov [⟨Rect.unit ![0, 0] ![16, 128] inb_S16x128_S16x128_0_0, Z⟩] upper.toLoadRect = View.ld Z upper :=
  View.readCov_fill v (s := S16x128) inb_S16x128_S16x128_0_0 Z [] upper (by decide)

theorem readCov_fill_lower (v : View sig .tc .vmem S16x128 .f32) (Z : Vec Ideal S16x128 .f32) :
    v.readCov [⟨Rect.unit ![0, 0] ![16, 128] inb_S16x128_S16x128_0_0, Z⟩] lower.toLoadRect = View.ld Z lower :=
  View.readCov_fill v (s := S16x128) inb_S16x128_S16x128_0_0 Z [] lower (by decide)

/-- Two last stores that cover the buffer between them leave what they stored, whatever came before. -/
theorem canon_two {S : Shape} {e : EltTy} (a b : Rect S) (w : a.shape.Idx → Elt Ideal e) (v : b.shape.Idx → Elt Ideal e)
    (L : List (View.Piece (Elt Ideal) S e)) (h : ∀ y, y ∉ a.set → y ∈ b.set) :
    View.canon (⟨a, w⟩ :: ⟨b, v⟩ :: L) = View.canon [⟨a, w⟩, ⟨b, v⟩] := by
  funext y
  by_cases ha : y ∈ a.set
  · obtain ⟨x, rfl⟩ := a.exists_idx_of_mem ha
    rw [show a.idx x = a.emb x from rfl, View.canon_cons_emb, View.canon_cons_emb]
  · rw [View.canon_cons_of_not_mem ⟨a, w⟩ _ ha, View.canon_cons_of_not_mem ⟨a, w⟩ _ ha]
    obtain ⟨x, rfl⟩ := b.exists_idx_of_mem (h y ha)
    rw [show b.idx x = b.emb x from rfl, View.canon_cons_emb, View.canon_cons_emb]

theorem mem_upper (y : S16x128.Idx) (h : y ∉ lower.set) : y ∈ upper.set := by
  rw [Rect.mem_set_unit] at h ⊢
  intro a
  have h0 := (y 0).isLt
  have h1 := (y 1).isLt
  have hlow : ¬ 8 ≤ (y 0 : ℕ) := fun h8 => h fun a => by
    fin_cases a
    · exact ⟨h8, h0⟩
    · exact ⟨Nat.zero_le _, h1⟩
  fin_cases a
  · exact ⟨Nat.zero_le _, Nat.lt_of_not_le hlow⟩
  · exact ⟨Nat.zero_le _, h1⟩

theorem canon_lower_upper (w : lower.shape.Idx → Elt Ideal .f32) (v : upper.shape.Idx → Elt Ideal .f32)
    (L : List (View.Piece (Elt Ideal) S16x128 .f32)) :
    View.canon (⟨lower, w⟩ :: ⟨upper, v⟩ :: L) = View.canon [⟨lower, w⟩, ⟨upper, v⟩] :=
  canon_two lower upper w v L mem_upper

theorem readCov_sums (v : View sig .tc .vmem S16x128 .f32) (L : List (View.Piece (Elt Ideal) S16x128 .f32)) :
    v.readCov L (Rect.unit ![0, 0] ![16, 128] inb_S16x128_S16x128_0_0).toLoadRect = View.canon L :=
  (View.readCov_eq_canon' v L _).trans (View.ld_unit_lit (S := S16x128) inb_S16x128_S16x128_0_0 (View.canon L) (by decide))

theorem ld_stacked (W : Vec Ideal S3456x96 .bf16) :
    View.ld W (Rect.unit ![0, 0] ![3456, 96] inb_S3456x96_S3456x96_0_0) = W :=
  View.ld_unit_lit (S := S3456x96) inb_S3456x96_S3456x96_0_0 W (by decide)

theorem readCov_ld {S : Shape} {e : EltTy} (v : View sig .tc .vmem S e) (L : List (View.Piece (Elt Ideal) S e)) (r : Rect S) :
    v.readCov L r.toLoadRect = View.ld (View.canon L) r := View.readCov_eq_canon' v L _

variable (m : (ℓ : Loc nD τ sig) → Buf (Elt Ideal) ℓ)

theorem images_B (c : Dev nD) (t : Fin cfg0.N) (h0 : ¬t.val % 4 = 0) (h1 : ¬t.val % 4 = 3) :
    (outsAt0 m c t.val t.isLt).1 =
      images (iblk m c 0 t) (iblk m c 1 t) (outsAt0 m c t.val t.isLt).2.2.1 (outsAt0 m c t.val t.isLt).2.2.2.1 := by
  rw [outsAt0_B m c t h0 h1]
  dsimp only
  frame_out
  simp only [read_unread_whole]
  rfl

theorem acc_B (c : Dev nD) (t : Fin cfg0.N) (h0 : ¬t.val % 4 = 0) (h1 : ¬t.val % 4 = 3) :
    (outsAt0 m c t.val t.isLt).2.2.2.2 =
      accStep (iblk m c 0 t) (iblk m c 1 t) (outsAt0 m c (t.val - 1) (by omega)).2.2.2.2 := by
  rw [outsAt0_B m c t h0 h1]
  dsimp only
  frame_out
  simp only [read_unread_whole, readCov_upper_lower, readCov_lower_upper, readCov_upper, readCov_lower, readCov_fill_upper, readCov_fill_lower]
  exact canon_lower_upper _ _ _

theorem kept_B (c : Dev nD) (t : Fin cfg0.N) (h0 : ¬t.val % 4 = 0) (h1 : ¬t.val % 4 = 3) :
    (outsAt0 m c t.val t.isLt).2.2.1 = (outsAt0 m c (t.val - 1) (by omega)).2.2.1 ∧
      (outsAt0 m c t.val t.isLt).2.2.2.1 = (outsAt0 m c (t.val - 1) (by omega)).2.2.2.1 := by
  rw [outsAt0_B m c t h0 h1]
  exact ⟨rfl, rfl⟩

theorem images_C (c : Dev nD) (t : Fin cfg0.N) (h0 : ¬t.val % 4 = 0) (h1 : t.val % 4 = 3) :
    (outsAt0 m c t.val t.isLt).1 =
      images (iblk m c 0 t) (iblk m c 1 t) (outsAt0 m c t.val t.isLt).2.2.1 (outsAt0 m c t.val t.isLt).2.2.2.1 := by
  rw [outsAt0_C m c t h0 h1]
  dsimp only
  frame_out
  simp only [read_unread_whole]
  rfl

theorem acc_C (c : Dev nD) (t : Fin cfg0.N) (h0 : ¬t.val % 4 = 0) (h1 : t.val % 4 = 3) :
    (outsAt0 m c t.val t.isLt).2.2.2.2 =
      accStep (iblk m c 0 t) (iblk m c 1 t) (outsAt0 m c (t.val - 1) (by omega)).2.2.2.2 := by
  rw [outsAt0_C m c t h0 h1]
  dsimp only
  frame_out
  simp only [read_unread_whole, readCov_upper_lower, readCov_lower_upper, readCov_upper, readCov_lower, readCov_fill_upper, readCov_fill_lower]
  exact canon_lower_upper _ _ _

theorem kept_C (c : Dev nD) (t : Fin cfg0.N) (h0 : ¬t.val % 4 = 0) (h1 : t.val % 4 = 3) :
    (outsAt0 m c t.val t.isLt).2.2.1 = (outsAt0 m c (t.val - 1) (by omega)).2.2.1 ∧
      (outsAt0 m c t.val t.isLt).2.2.2.1 = (outsAt0 m c (t.val - 1) (by omega)).2.2.2.1 := by
  rw [outsAt0_C m c t h0 h1]
  exact ⟨rfl, rfl⟩

theorem images_A (c : Dev nD) (t : Fin cfg0.N) (h0 : t.val % 4 = 0) (h1 : ¬t.val % 4 = 3) :
    (outsAt0 m c t.val t.isLt).1 =
      images (iblk m c 0 t) (iblk m c 1 t) (outsAt0 m c t.val t.isLt).2.2.1 (outsAt0 m c t.val t.isLt).2.2.2.1 := by
  rw [outsAt0_A m c t h0 h1]
  dsimp only
  frame_out
  simp only [readCov_ld, ld_stacked]
  generalize View.canon (Val := Elt Ideal) (e := .bf16) (s := S3456x96) _ = W
  generalize View.canon (Val := Elt Ideal) (e := .bf16) (s := S9x96x384) _ = U
  rfl

theorem acc_A (c : Dev nD) (t : Fin cfg0.N) (h0 : t.val % 4 = 0) (h1 : ¬t.val % 4 = 3) :
    (outsAt0 m c t.val t.isLt).2.2.2.2 = accStep (iblk m c 0 t) (iblk m c 1 t) (k0_pay23 (F := Ideal)) := by
  rw [outsAt0_A m c t h0 h1]
  dsimp only
  frame_out
  simp only [readCov_upper_lower, readCov_lower_upper, readCov_upper, readCov_lower, readCov_fill_upper, readCov_fill_lower]
  exact canon_lower_upper _ _ _

theorem balance_C (c : Dev nD) (t : Fin cfg0.N) (h0 : ¬t.val % 4 = 0) (h1 : t.val % 4 = 3) :
    (outsAt0 m c t.val t.isLt).2.1 = k0_pay2 (outsAt0 m c t.val t.isLt).2.2.2.2 := by
  rw [outsAt0_C m c t h0 h1]
  dsimp only
  frame_out
  simp only [readCov_sums]

end Cert.Moe

end
-- ==== Proof.KernelWeights.lean ====
/- The weights the first grid point leaves stacked: the shared pair and the eight experts', each times the square root
   of one half. -/
module

public import proofs.«01_k».proof.Proof.KernelState
public import Idealize.ShloMosaic.Lib.Pipeline.ValueKit
public import Idealize.ShloMosaic.Lib.Pointwise

@[expose] public section

set_option maxRecDepth 16384

noncomputable section

namespace Cert.Moe
open Cert.KernelIdeal Cert.KernelIdeal.Gen Idealize.ShloMosaic Idealize.ShloMosaic.TcCoe Idealize.SL.Sem
open Idealize.ShloMosaic.Pipeline (Dat)

/-- The nine first weights: the shared one, then the experts'. -/
def firsts (s : Vec Ideal S384x96 .f32) (e : Vec Ideal S8x384x96 .f32) (c : Fin 9) (h : Fin 384) (d : Fin 96) : EReal :=
  Fin.cases (motive := fun _ => EReal) (s (ix2 h d)) (fun k : Fin 8 => e (ix3 k h d)) c

/-- The nine second weights. -/
def seconds (s : Vec Ideal S96x384 .f32) (e : Vec Ideal S8x96x384 .f32) (c : Fin 9) (o : Fin 96) (h : Fin 384) : EReal :=
  Fin.cases (motive := fun _ => EReal) (s (ix2 o h)) (fun k : Fin 8 => e (ix3 k o h)) c

/-- The first weights stacked by rows, scaled. -/
def stackedFirsts (s : Vec Ideal S384x96 .f32) (e : Vec Ideal S8x384x96 .f32) : Vec Ideal S3456x96 .bf16 := fun i =>
  firsts s e ⟨(i 0 : ℕ) / 384, Nat.div_lt_of_lt_mul (i 0).isLt⟩ ⟨(i 0 : ℕ) % 384, Nat.mod_lt _ (by decide)⟩ (i 1) * rootHalf

/-- The second weights stacked, scaled. -/
def stackedSeconds (s : Vec Ideal S96x384 .f32) (e : Vec Ideal S8x96x384 .f32) : Vec Ideal S9x96x384 .bf16 := fun i =>
  seconds s e (i 0) (i 1) (i 2) * rootHalf

theorem named_half_root : Named.named (F := Ideal) (φ := .f32) κ "half_root" 1060439283#32 = rootHalf := by
  rfl

theorem stackedFirsts_at (s : Vec Ideal S384x96 .f32) (e : Vec Ideal S8x384x96 .f32) (i : S3456x96.Idx) (c : Fin 9)
    (h : Fin 384) (d : Fin 96) (h0 : (i 0 : ℕ) = 384 * c + h) (h1 : (i 1 : ℕ) = d) :
    stackedFirsts s e i = firsts s e c h d * rootHalf := by
  unfold stackedFirsts
  congr 2
  · exact Fin.ext (by show (i 0 : ℕ) / 384 = c; omega)
  · exact Fin.ext (by show (i 0 : ℕ) % 384 = h; omega)
  · exact Fin.ext h1

theorem stackedSeconds_at (s : Vec Ideal S96x384 .f32) (e : Vec Ideal S8x96x384 .f32) (i : S9x96x384.Idx) (c : Fin 9)
    (o : Fin 96) (h : Fin 384) (h0 : (i 0 : ℕ) = c) (h1 : (i 1 : ℕ) = o) (h2 : (i 2 : ℕ) = h) :
    stackedSeconds s e i = seconds s e c o h * rootHalf := by
  unfold stackedSeconds
  congr 2
  · exact Fin.ext h0
  · exact Fin.ext h1
  · exact Fin.ext h2

/-- A rectangle of 384 rows of the stack starting at row `384 * c`. -/
theorem firsts_piece (s : Vec Ideal S384x96 .f32) (e : Vec Ideal S8x384x96 .f32) (c : Fin 9) (off : Fin 2 → ℕ)
    (inb : ∀ a, off a + S384x96.size a ≤ S3456x96.size a) (h0 : off 0 = 384 * c) (h1 : off 1 = 0)
    (p : FVec Ideal S384x96 .bf16) (hp : ∀ h d, p (ix2 h d) = firsts s e c h d * rootHalf) (x : S384x96.Idx) :
    p x = stackedFirsts s e ((Rect.unit (s := S3456x96) off S384x96.size inb).emb x) := by
  obtain ⟨h, d, rfl⟩ : ∃ (h : Fin 384) (d : Fin 96), x = ix2 h d := ⟨x 0, x 1, by funext a; fin_cases a <;> rfl⟩
  rw [hp, stackedFirsts_at s e _ c h d (by show off 0 + 1 * (h : ℕ) = _; rw [h0, Nat.one_mul])
    (by show off 1 + 1 * (d : ℕ) = _; omega)]

theorem seconds_piece (s : Vec Ideal S96x384 .f32) (e : Vec Ideal S8x96x384 .f32) (c : Fin 9) (off : Fin 3 → ℕ)
    (inb : ∀ a, off a + S1x96x384.size a ≤ S9x96x384.size a) (h0 : off 0 = c) (h1 : off 1 = 0) (h2 : off 2 = 0)
    (p : FVec Ideal S1x96x384 .bf16) (hp : ∀ o h, p (ix3 0 o h) = seconds s e c o h * rootHalf) (x : S1x96x384.Idx) :
    p x = stackedSeconds s e ((Rect.unit (s := S9x96x384) off S1x96x384.size inb).emb x) := by
  obtain ⟨o, h, rfl⟩ : ∃ (o : Fin 96) (h : Fin 384), x = ix3 0 o h := ⟨x 1, x 2, by
    have hx0 : (x 0 : ℕ) = 0 := by have := (x 0).isLt; change (x 0 : ℕ) < 1 at this; omega
    funext a
    fin_cases a
    · exact Fin.ext hx0
    · rfl
    · rfl⟩
  rw [hp, stackedSeconds_at s e _ c o h (by show off 0 + 1 * 0 = _; omega) (by show off 1 + 1 * (o : ℕ) = _; omega)
    (by show off 2 + 1 * (h : ℕ) = _; omega)]

theorem firsts_mem (y : S3456x96.Idx) (c : ℕ) (off : Fin 2 → ℕ) (inb : ∀ a, off a + S384x96.size a ≤ S3456x96.size a)
    (h0 : off 0 = 384 * c) (h1 : off 1 = 0) (hy : (y 0 : ℕ) / 384 = c) :
    y ∈ (Rect.unit (s := S3456x96) off S384x96.size inb).set := by
  rw [Rect.mem_set_unit]
  have hy1 := (y 1).isLt
  change (y 1 : ℕ) < 96 at hy1
  intro a
  fin_cases a
  · show off 0 ≤ (y 0 : ℕ) ∧ (y 0 : ℕ) < off 0 + 384
    omega
  · show off 1 ≤ (y 1 : ℕ) ∧ (y 1 : ℕ) < off 1 + 96
    omega

theorem seconds_mem (y : S9x96x384.Idx) (c : ℕ) (off : Fin 3 → ℕ)
    (inb : ∀ a, off a + S1x96x384.size a ≤ S9x96x384.size a) (h0 : off 0 = c) (h1 : off 1 = 0) (h2 : off 2 = 0)
    (hy : (y 0 : ℕ) = c) : y ∈ (Rect.unit (s := S9x96x384) off S1x96x384.size inb).set := by
  rw [Rect.mem_set_unit]
  have hy1 := (y 1).isLt
  have hy2 := (y 2).isLt
  change (y 1 : ℕ) < 96 at hy1
  change (y 2 : ℕ) < 384 at hy2
  intro a
  fin_cases a
  · show off 0 ≤ (y 0 : ℕ) ∧ (y 0 : ℕ) < off 0 + 1
    omega
  · show off 1 ≤ (y 1 : ℕ) ∧ (y 1 : ℕ) < off 1 + 96
    omega
  · show off 2 ≤ (y 2 : ℕ) ∧ (y 2 : ℕ) < off 2 + 384
    omega

variable (m : (ℓ : Loc nD τ sig) → Buf (Elt Ideal) ℓ)

theorem firsts_A (c : Dev nD) (t : Fin cfg0.N) (h0 : t.val % 4 = 0) (h1 : ¬t.val % 4 = 3) :
    (outsAt0 m c t.val t.isLt).2.2.1 = stackedFirsts (iblk m c 2 t) (iblk m c 3 t) := by
  rw [outsAt0_A m c t h0 h1]
  dsimp only
  frame_out
  generalize iblk m c 2 t = s
  generalize iblk m c 3 t = e
  funext y
  refine View.canon_apply_of_pieces (stackedFirsts s e) _ ?_ y ?_
  · refine View.PiecesOf.mem ?_
    exact ⟨firsts_piece s e 8 _ inb_S3456x96_S384x96_3072_0 rfl rfl _ fun h d => by pointwise [k0_pay21]; rw [named_half_root]; rfl,
      firsts_piece s e 7 _ inb_S3456x96_S384x96_2688_0 rfl rfl _ fun h d => by pointwise [k0_pay18]; rw [named_half_root]; rfl,
      firsts_piece s e 6 _ inb_S3456x96_S384x96_2304_0 rfl rfl _ fun h d => by pointwise [k0_pay16]; rw [named_half_root]; rfl,
      firsts_piece s e 5 _ inb_S3456x96_S384x96_1920_0 rfl rfl _ fun h d => by pointwise [k0_pay13]; rw [named_half_root]; rfl,
      firsts_piece s e 4 _ inb_S3456x96_S384x96_1536_0 rfl rfl _ fun h d => by pointwise [k0_pay11]; rw [named_half_root]; rfl,
      firsts_piece s e 3 _ inb_S3456x96_S384x96_1152_0 rfl rfl _ fun h d => by pointwise [k0_pay9]; rw [named_half_root]; rfl,
      firsts_piece s e 2 _ inb_S3456x96_S384x96_768_0 rfl rfl _ fun h d => by pointwise [k0_pay7]; rw [named_half_root]; rfl,
      firsts_piece s e 1 _ inb_S3456x96_S384x96_384_0 rfl rfl _ fun h d => by pointwise [k0_pay5]; rw [named_half_root]; rfl,
      firsts_piece s e 0 _ inb_S3456x96_S384x96_0_0 rfl rfl _ fun h d => by pointwise [k0_pay3]; rw [named_half_root]; rfl, trivial⟩
  · have hlt : (y 0 : ℕ) / 384 < 9 := by
      have := (y 0).isLt
      change (y 0 : ℕ) < 3456 at this
      omega
    generalize hc : (y 0 : ℕ) / 384 = c' at hlt
    interval_cases c'
    · exact ⟨_, .tail _ (.tail _ (.tail _ (.tail _ (.tail _ (.tail _ (.tail _ (.tail _ (.head _)))))))), firsts_mem y 0 _ inb_S3456x96_S384x96_0_0 rfl rfl hc⟩
    · exact ⟨_, .tail _ (.tail _ (.tail _ (.tail _ (.tail _ (.tail _ (.tail _ (.head _))))))), firsts_mem y 1 _ inb_S3456x96_S384x96_384_0 rfl rfl hc⟩
    · exact ⟨_, .tail _ (.tail _ (.tail _ (.tail _ (.tail _ (.tail _ (.head _)))))), firsts_mem y 2 _ inb_S3456x96_S384x96_768_0 rfl rfl hc⟩
    · exact ⟨_, .tail _ (.tail _ (.tail _ (.tail _ (.tail _ (.head _))))), firsts_mem y 3 _ inb_S3456x96_S384x96_1152_0 rfl rfl hc⟩
    · exact ⟨_, .tail _ (.tail _ (.tail _ (.tail _ (.head _)))), firsts_mem y 4 _ inb_S3456x96_S384x96_1536_0 rfl rfl hc⟩
    · exact ⟨_, .tail _ (.tail _ (.tail _ (.head _))), firsts_mem y 5 _ inb_S3456x96_S384x96_1920_0 rfl rfl hc⟩
    · exact ⟨_, .tail _ (.tail _ (.head _)), firsts_mem y 6 _ inb_S3456x96_S384x96_2304_0 rfl rfl hc⟩
    · exact ⟨_, .tail _ (.head _), firsts_mem y 7 _ inb_S3456x96_S384x96_2688_0 rfl rfl hc⟩
    · exact ⟨_, .head _, firsts_mem y 8 _ inb_S3456x96_S384x96_3072_0 rfl rfl hc⟩

theorem seconds_A (c : Dev nD) (t : Fin cfg0.N) (h0 : t.val % 4 = 0) (h1 : ¬t.val % 4 = 3) :
    (outsAt0 m c t.val t.isLt).2.2.2.1 = stackedSeconds (iblk m c 4 t) (iblk m c 5 t) := by
  rw [outsAt0_A m c t h0 h1]
  dsimp only
  frame_out
  generalize iblk m c 4 t = s
  generalize iblk m c 5 t = e
  funext y
  refine View.canon_apply_of_pieces (stackedSeconds s e) _ ?_ y ?_
  · refine View.PiecesOf.mem ?_
    exact ⟨seconds_piece s e 8 _ inb_S9x96x384_S1x96x384_8_0_0 rfl rfl rfl _ fun o h => by pointwise [k0_pay22]; rw [named_half_root]; rfl,
      seconds_piece s e 7 _ inb_S9x96x384_S1x96x384_7_0_0 rfl rfl rfl _ fun o h => by pointwise [k0_pay20, k0_pay19]; rw [named_half_root]; rfl,
      seconds_piece s e 6 _ inb_S9x96x384_S1x96x384_6_0_0 rfl rfl rfl _ fun o h => by pointwise [k0_pay17]; rw [named_half_root]; rfl,
      seconds_piece s e 5 _ inb_S9x96x384_S1x96x384_5_0_0 rfl rfl rfl _ fun o h => by pointwise [k0_pay15, k0_pay14]; rw [named_half_root]; rfl,
      seconds_piece s e 4 _ inb_S9x96x384_S1x96x384_4_0_0 rfl rfl rfl _ fun o h => by pointwise [k0_pay12]; rw [named_half_root]; rfl,
      seconds_piece s e 3 _ inb_S9x96x384_S1x96x384_3_0_0 rfl rfl rfl _ fun o h => by pointwise [k0_pay10]; rw [named_half_root]; rfl,
      seconds_piece s e 2 _ inb_S9x96x384_S1x96x384_2_0_0 rfl rfl rfl _ fun o h => by pointwise [k0_pay8]; rw [named_half_root]; rfl,
      seconds_piece s e 1 _ inb_S9x96x384_S1x96x384_1_0_0 rfl rfl rfl _ fun o h => by pointwise [k0_pay6]; rw [named_half_root]; rfl,
      seconds_piece s e 0 _ inb_S9x96x384_S1x96x384_0_0_0 rfl rfl rfl _ fun o h => by pointwise [k0_pay4]; rw [named_half_root]; rfl, trivial⟩
  · have hlt : (y 0 : ℕ) < 9 := by
      have := (y 0).isLt
      change (y 0 : ℕ) < 9 at this
      omega
    generalize hc : (y 0 : ℕ) = c' at hlt
    interval_cases c'
    · exact ⟨_, .tail _ (.tail _ (.tail _ (.tail _ (.tail _ (.tail _ (.tail _ (.tail _ (.head _)))))))), seconds_mem y 0 _ inb_S9x96x384_S1x96x384_0_0_0 rfl rfl rfl hc⟩
    · exact ⟨_, .tail _ (.tail _ (.tail _ (.tail _ (.tail _ (.tail _ (.tail _ (.head _))))))), seconds_mem y 1 _ inb_S9x96x384_S1x96x384_1_0_0 rfl rfl rfl hc⟩
    · exact ⟨_, .tail _ (.tail _ (.tail _ (.tail _ (.tail _ (.tail _ (.head _)))))), seconds_mem y 2 _ inb_S9x96x384_S1x96x384_2_0_0 rfl rfl rfl hc⟩
    · exact ⟨_, .tail _ (.tail _ (.tail _ (.tail _ (.tail _ (.head _))))), seconds_mem y 3 _ inb_S9x96x384_S1x96x384_3_0_0 rfl rfl rfl hc⟩
    · exact ⟨_, .tail _ (.tail _ (.tail _ (.tail _ (.head _)))), seconds_mem y 4 _ inb_S9x96x384_S1x96x384_4_0_0 rfl rfl rfl hc⟩
    · exact ⟨_, .tail _ (.tail _ (.tail _ (.head _))), seconds_mem y 5 _ inb_S9x96x384_S1x96x384_5_0_0 rfl rfl rfl hc⟩
    · exact ⟨_, .tail _ (.tail _ (.head _)), seconds_mem y 6 _ inb_S9x96x384_S1x96x384_6_0_0 rfl rfl rfl hc⟩
    · exact ⟨_, .tail _ (.head _), seconds_mem y 7 _ inb_S9x96x384_S1x96x384_7_0_0 rfl rfl rfl hc⟩
    · exact ⟨_, .head _, seconds_mem y 8 _ inb_S9x96x384_S1x96x384_8_0_0 rfl rfl rfl hc⟩

end Cert.Moe

end
-- ==== Proof.Spec.lean ====
/- The two results, as plain functions of one image's channels at a pixel: what both programs are shown to compute. -/
module

public import proofs.«01_k».proof.Proof.Expert
public import proofs.«01_k».proof.Proof.Balance

@[expose] public section

noncomputable section

namespace Cert.Moe

open Idealize.ShloMosaic

/-- The gate's score of expert `e`. -/
def score (gw : Fin 8 → Fin 96 → EReal) (v : Fin 96 → EReal) (e : Fin 8) : EReal := ∑ d, gw e d * v d

/-- The probabilities of the experts. -/
def gate (gw : Fin 8 → Fin 96 → EReal) (v : Fin 96 → EReal) : Fin 8 → EReal := prob (score gw v)

/-- The first result at a pixel: the input, the shared expert, and the experts weighted by the mixture. -/
def outAt (gw : Fin 8 → Fin 96 → EReal) (sw1 : Fin 384 → Fin 96 → EReal) (sw2 : Fin 96 → Fin 384 → EReal)
    (ew1 : Fin 8 → Fin 384 → Fin 96 → EReal) (ew2 : Fin 8 → Fin 96 → Fin 384 → EReal) (v : Fin 96 → EReal) (o : Fin 96) : EReal :=
  v o + expert sw1 sw2 v o +
    expert (ew1 0) (ew2 0) v o * mix (gate gw v) 0 + expert (ew1 1) (ew2 1) v o * mix (gate gw v) 1 +
    expert (ew1 2) (ew2 2) v o * mix (gate gw v) 2 + expert (ew1 3) (ew2 3) v o * mix (gate gw v) 3 +
    expert (ew1 4) (ew2 4) v o * mix (gate gw v) 4 + expert (ew1 5) (ew2 5) v o * mix (gate gw v) 5 +
    expert (ew1 6) (ew2 6) v o * mix (gate gw v) 6 + expert (ew1 7) (ew2 7) v o * mix (gate gw v) 7

/-- The second result, of every pixel's channels. -/
def auxOf (gw : Fin 8 → Fin 96 → EReal) (x : Fin 8 → Fin 32 → Fin 32 → Fin 96 → EReal) : EReal :=
  balance (fun e => ∑ b, ∑ h, ∑ w, gate gw (x b h w) e) (fun e => ∑ b, ∑ h, ∑ w, count (gate gw (x b h w)) e)

/-- The second result with the counts read off the sorted probabilities. -/
theorem auxOf_sorted (gw : Fin 8 → Fin 96 → EReal) (x : Fin 8 → Fin 32 → Fin 32 → Fin 96 → EReal) :
    balance (fun e => ∑ b, ∑ h, ∑ w, gate gw (x b h w) e) (fun e => ∑ b, ∑ h, ∑ w, sortedCount (gate gw (x b h w)) e) =
      auxOf gw x := by
  have h := balance_sorted (ι := Fin 8 × Fin 32 × Fin 32) fun i => score gw (x i.1 i.2.1 i.2.2)
  simp only [Fintype.sum_prod_type] at h
  exact h

/-- The pixels of an image, row by row. -/
theorem sum_pixels (f : Fin 32 → Fin 32 → EReal) :
    ∑ n : Fin 1024, f ⟨(n : ℕ) / 32, by omega⟩ ⟨(n : ℕ) % 32, by omega⟩ = ∑ h, ∑ w, f h w := by
  rw [← Fintype.sum_prod_type' f]
  refine (Fintype.sum_equiv (finProdFinEquiv (m := 32) (n := 32)) _ _ fun p => ?_).symm
  obtain ⟨h, w⟩ := p
  have hv : (finProdFinEquiv (m := 32) (n := 32) (h, w) : ℕ) = w + 32 * h := rfl
  congr 1 <;> apply Fin.ext <;> simp only [hv] <;> omega

end Cert.Moe

end
-- ==== Proof.KernelBlocks.lean ====
/- The blocks the body reads, in terms of the arguments, and what a grid point leaves in terms of the plain functions. -/
module

public import proofs.«01_k».proof.Proof.KernelWeights
public import proofs.«01_k».proof.Proof.Spec
public import Idealize.ShloMosaic.Lib.Pipeline.ValueKit
public import Idealize.ShloMosaic.Lib.Pointwise

@[expose] public section

set_option maxRecDepth 16384

noncomputable section

namespace Cert.Moe
open Cert.KernelIdeal Cert.KernelIdeal.Gen Idealize.ShloMosaic Idealize.ShloMosaic.TcCoe Idealize.SL.Sem
open Idealize.ShloMosaic.Pipeline (Dat)
open Idealize.ShloMosaic.Pipeline (Dat)

variable (m : (ℓ : Loc nD τ sig) → Buf (Elt Ideal) ℓ)

theorem idx : ∀ t : Fin cfg0.N, win0_0.index t = ![t.val, 0, 0] ∧ win0_1.index t = ![0, 0] ∧ win0_2.index t = ![0, 0]
    ∧ win0_3.index t = ![0, 0, 0] ∧ win0_4.index t = ![0, 0] ∧ win0_5.index t = ![0, 0, 0] ∧ win0_6.index t = ![t.val, 0, 0]
    ∧ win0_7.index t = ![0, 0] :=
  (by decide +kernel : ∀ t : Fin grid0.N, _)

theorem points (t : Fin cfg0.N) : t.val < 4 := lt_of_lt_of_eq t.isLt N_0

/-- The first argument, of shape `[8, 96, 32, 32]`, by image, row, column and channel. -/
def pix (x : Vec Ideal S8x96x32x32 .f32) (b : Fin 8) (h w : Fin 32) (d : Fin 96) : EReal := x (ix4 b d h w)

/-- The channels of pixel `n` of the image. -/
def pixel (x : Vec Ideal S8x96x32x32 .f32) (b : Fin 8) (n : Fin 1024) : Fin 96 → EReal :=
  pix x b ⟨(n : ℕ) / 32, by omega⟩ ⟨(n : ℕ) % 32, by omega⟩

/-- A value summed over the lanes and divided by their number. -/
theorem lanes (p : EReal) : (∑ _l : Fin 128, p) * ((1 / 128 : ℝ) : EReal) = p := by
  have h : ((128 : ℕ) : EReal) * ((1 / 128 : ℝ) : EReal) = 1 := by
    rw [show ((128 : ℕ) : EReal) = ((128 : ℝ) : EReal) from rfl, ← EReal.coe_mul]
    norm_num
  rw [Finset.sum_const, Finset.card_univ, Fintype.card_fin, EReal.nsmul_eq_mul, mul_comm _ p, mul_assoc, h, mul_one]

theorem block1 (c : Dev nD) (t : Fin cfg0.N) : iblk m c 1 t = m ((c : Thread nD τ).loc main_arg5) := by
  blk_ext! [iblk, V_main_arg5, idx t]
theorem block2 (c : Dev nD) (t : Fin cfg0.N) : iblk m c 2 t = m ((c : Thread nD τ).loc main_arg1) := by
  blk_ext! [iblk, V_main_arg1, idx t]
theorem block3 (c : Dev nD) (t : Fin cfg0.N) : iblk m c 3 t = m ((c : Thread nD τ).loc main_arg7) := by
  blk_ext! [iblk, V_main_arg7, idx t]
theorem block4 (c : Dev nD) (t : Fin cfg0.N) : iblk m c 4 t = m ((c : Thread nD τ).loc main_arg3) := by
  blk_ext! [iblk, V_main_arg3, idx t]
theorem block5 (c : Dev nD) (t : Fin cfg0.N) : iblk m c 5 t = m ((c : Thread nD τ).loc main_arg9) := by
  blk_ext! [iblk, V_main_arg9, idx t]

theorem entry0 (c : Dev nD) (b : Fin 8) (d : Fin 96) (n : Fin 1024) :
    (show Vec Ideal S8x96x1024 .f32 from V m c main_v0) (ix3 b d n) = pixel (m ((c : Thread nD τ).loc main_arg0)) b n d := by
  have h : V m c main_v0 = shapeCast S8x96x1024 (m ((c : Thread nD τ).loc main_arg0)) shapeCasts_S8x96x32x32_S8x96x1024 := by
    show StableHlo.after hostOps0 (fun b => m (c, b)) (Proc.devRef .tc main_v0) = _
    after_results
    rfl
  rw [h]
  pointwise
  unfold pixel pix
  rfl

theorem block0 (c : Dev nD) (t : Fin cfg0.N) (i : Fin 2) (d : Fin 96) (n : Fin 1024) :
    (show Vec Ideal S2x96x1024 .f32 from iblk m c 0 t) (ix3 i d n) =
      pixel (m ((c : Thread nD τ).loc main_arg0)) ⟨2 * t.val + i, by have := points t; omega⟩ n d := by
  have h := points t
  rw [← entry0 m c]
  blk_ext! [iblk, idx t]

theorem pay2_apply (a : Vec Ideal S16x128 .f32) (P L : Fin 8 → EReal)
    (hP : ∀ (e : Fin 8) (l : Fin 128), a (ix2 (⟨e, by omega⟩ : Fin 16) l) = P e)
    (hL : ∀ (e : Fin 8) (l : Fin 128), a (ix2 (⟨8 + e, by omega⟩ : Fin 16) l) = L e) :
    k0_pay2 a (ix2 0 0) = balance P L := by
  pointwise [k0_pay2]
  simp only [hP, hL, lit_eight, lit_per_lane, lit_per_pixel, lanes, Finset.univ_unique, Finset.sum_singleton]
  rfl

end Cert.Moe

end
-- ==== Proof.KernelRun.lean ====
/- What the kernel leaves in its two result arrays, in terms of the plain functions. -/
module

public import proofs.«01_k».proof.Proof.KernelBlocks
public import Idealize.ShloMosaic.Lib.Pipeline.ValueKit
public import Idealize.ShloMosaic.Lib.Pointwise

@[expose] public section

set_option maxRecDepth 16384

noncomputable section

namespace Cert.Moe
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The arguments the kernel reads, as matrices. -/
def gateOf (gw : Vec Ideal S8x96 .f32) (e : Fin 8) (d : Fin 96) : EReal := gw (ix2 e d)
def mat (s : Vec Ideal S384x96 .f32) (h : Fin 384) (d : Fin 96) : EReal := s (ix2 h d)
def tam (s : Vec Ideal S96x384 .f32) (o : Fin 96) (h : Fin 384) : EReal := s (ix2 o h)
def mats (e : Vec Ideal S8x384x96 .f32) (k : Fin 8) (h : Fin 384) (d : Fin 96) : EReal := e (ix3 k h d)
def tams (e : Vec Ideal S8x96x384 .f32) (k : Fin 8) (o : Fin 96) (h : Fin 384) : EReal := e (ix3 k o h)

theorem ld_slab (w2 : Vec Ideal S9x96x384 .bf16) (c : Fin 9) (off : Fin 3 → ℕ)
    (inb : ∀ a, off a + (![1, 96, 384] : Fin 3 → ℕ) a ≤ S9x96x384.size a) (h0 : off 0 = c) (h1 : off 1 = 0) (h2 : off 2 = 0)
    (o : Fin 96) (h : Fin 384) : View.ld w2 (Rect.unit off ![1, 96, 384] inb) (ix3 0 o h) = w2 (ix3 c o h) :=
  View.ld_unit_apply_of w2 off _ inb (ix3 0 o h) (ix3 c o h) fun a => match a with
    | ⟨0, _⟩ => by show (c : ℕ) = off 0 + 0; omega
    | ⟨1, _⟩ => by show (o : ℕ) = off 1 + o; omega
    | ⟨2, _⟩ => by show (h : ℕ) = off 2 + h; omega

theorem ld_image (X : Vec Ideal S2x96x1024 .f32) (i : Fin 2) (off : Fin 3 → ℕ)
    (inb : ∀ a, off a + (![1, 96, 1024] : Fin 3 → ℕ) a ≤ S2x96x1024.size a) (h0 : off 0 = i) (h1 : off 1 = 0) (h2 : off 2 = 0)
    (d : Fin 96) (n : Fin 1024) : View.ld X (Rect.unit off ![1, 96, 1024] inb) (ix3 0 d n) = X (ix3 i d n) :=
  View.ld_unit_apply_of X off _ inb (ix3 0 d n) (ix3 i d n) fun a => match a with
    | ⟨0, _⟩ => by show (i : ℕ) = off 0 + 0; omega
    | ⟨1, _⟩ => by show (d : ℕ) = off 1 + d; omega
    | ⟨2, _⟩ => by show (n : ℕ) = off 2 + n; omega

theorem slab_apply (w2 : Vec Ideal S9x96x384 .bf16) (c : Fin 9) (o : Fin 96) (h : Fin 384) :
    slab w2 c (ix3 0 o h) = w2 (ix3 c o h) :=
  match c with
  | 0 => ld_slab w2 0 ![0, 0, 0] inb_S9x96x384_S1x96x384_0_0_0 rfl rfl rfl o h
  | 1 => ld_slab w2 1 ![1, 0, 0] inb_S9x96x384_S1x96x384_1_0_0 rfl rfl rfl o h
  | 2 => ld_slab w2 2 ![2, 0, 0] inb_S9x96x384_S1x96x384_2_0_0 rfl rfl rfl o h
  | 3 => ld_slab w2 3 ![3, 0, 0] inb_S9x96x384_S1x96x384_3_0_0 rfl rfl rfl o h
  | 4 => ld_slab w2 4 ![4, 0, 0] inb_S9x96x384_S1x96x384_4_0_0 rfl rfl rfl o h
  | 5 => ld_slab w2 5 ![5, 0, 0] inb_S9x96x384_S1x96x384_5_0_0 rfl rfl rfl o h
  | 6 => ld_slab w2 6 ![6, 0, 0] inb_S9x96x384_S1x96x384_6_0_0 rfl rfl rfl o h
  | 7 => ld_slab w2 7 ![7, 0, 0] inb_S9x96x384_S1x96x384_7_0_0 rfl rfl rfl o h
  | 8 => ld_slab w2 8 ![8, 0, 0] inb_S9x96x384_S1x96x384_8_0_0 rfl rfl rfl o h

theorem part_stacked (X : Vec Ideal S1x96x1024 .f32) (s : Vec Ideal S384x96 .f32) (e : Vec Ideal S8x384x96 .f32)
    (s' : Vec Ideal S96x384 .f32) (e' : Vec Ideal S8x96x384 .f32) (c : Fin 9) (o : Fin 96) (n : Fin 1024) :
    part X (stackedFirsts s e) (slab (stackedSeconds s' e') c) c o n = expert (firsts s e c) (seconds s' e' c) (column X n) o := by
  rw [← scaledExpert_eq]
  unfold part
  congr 1
  · funext h d
    exact stackedFirsts_at s e _ c h d rfl rfl
  · funext o h
    exact (slab_apply _ c o h).trans (stackedSeconds_at s' e' _ c o h rfl rfl rfl)

theorem imageAt_stacked (X : Vec Ideal S1x96x1024 .f32) (gw : Vec Ideal S8x96 .f32) (s : Vec Ideal S384x96 .f32)
    (e : Vec Ideal S8x384x96 .f32) (s' : Vec Ideal S96x384 .f32) (e' : Vec Ideal S8x96x384 .f32) (o : Fin 96) (n : Fin 1024) :
    imageAt X gw (stackedFirsts s e) (slab (stackedSeconds s' e')) (ix3 0 o n) =
      outAt (gateOf gw) (mat s) (tam s') (mats e) (tams e') (column X n) o := by
  rw [imageAt_apply]
  simp only [part_stacked]
  rfl

theorem first_apply (X : Vec Ideal S2x96x1024 .f32) (d : Fin 96) (n : Fin 1024) : first X (ix3 0 d n) = X (ix3 0 d n) :=
  ld_image X 0 ![0, 0, 0] inb_S2x96x1024_S1x96x1024_0_0_0 rfl rfl rfl d n

theorem second_apply (X : Vec Ideal S2x96x1024 .f32) (d : Fin 96) (n : Fin 1024) : second X (ix3 0 d n) = X (ix3 1 d n) :=
  ld_image X 1 ![1, 0, 0] inb_S2x96x1024_S1x96x1024_1_0_0 rfl rfl rfl d n

/-- The channels of pixel `n` of image `i` of a block. -/
def blockPixel (X : Vec Ideal S2x96x1024 .f32) (i : Fin 2) (n : Fin 1024) (d : Fin 96) : EReal := X (ix3 i d n)

theorem first_column (X : Vec Ideal S2x96x1024 .f32) (n : Fin 1024) : column (first X) n = blockPixel X 0 n :=
  funext fun d => first_apply X d n

theorem second_column (X : Vec Ideal S2x96x1024 .f32) (n : Fin 1024) : column (second X) n = blockPixel X 1 n :=
  funext fun d => second_apply X d n

theorem probs_first (X : Vec Ideal S2x96x1024 .f32) (gw : Vec Ideal S8x96 .f32) (n : Fin 1024) :
    probs (first X) gw n = gate (gateOf gw) (blockPixel X 0 n) := by
  rw [← first_column]; rfl

theorem probs_second (X : Vec Ideal S2x96x1024 .f32) (gw : Vec Ideal S8x96 .f32) (n : Fin 1024) :
    probs (second X) gw n = gate (gateOf gw) (blockPixel X 1 n) := by
  rw [← second_column]; rfl

/-- The first result at every pixel of a block of two images. -/
def outBlock (X : Vec Ideal S2x96x1024 .f32) (gw : Vec Ideal S8x96 .f32) (s : Vec Ideal S384x96 .f32)
    (e : Vec Ideal S8x384x96 .f32) (s' : Vec Ideal S96x384 .f32) (e' : Vec Ideal S8x96x384 .f32) : Vec Ideal S2x96x1024 .f32 :=
  fun y => outAt (gateOf gw) (mat s) (tam s') (mats e) (tams e') (blockPixel X (y 0) (y 2)) (y 1)

theorem outBlock_piece (X : Vec Ideal S2x96x1024 .f32) (gw : Vec Ideal S8x96 .f32) (s : Vec Ideal S384x96 .f32)
    (e : Vec Ideal S8x384x96 .f32) (s' : Vec Ideal S96x384 .f32) (e' : Vec Ideal S8x96x384 .f32)
    (i : Fin 2) (Xi : Vec Ideal S1x96x1024 .f32) (off : Fin 3 → ℕ)
    (inb : ∀ a, off a + (![1, 96, 1024] : Fin 3 → ℕ) a ≤ S2x96x1024.size a) (h0 : off 0 = i) (h1 : off 1 = 0) (h2 : off 2 = 0)
    (hc : ∀ n, column Xi n = blockPixel X i n) (x : S1x96x1024.Idx) :
    imageAt Xi gw (stackedFirsts s e) (slab (stackedSeconds s' e')) x =
      outBlock X gw s e s' e' ((Rect.unit (s := S2x96x1024) off ![1, 96, 1024] inb).emb x) := by
  obtain ⟨o, n, rfl⟩ : ∃ (o : Fin 96) (n : Fin 1024), x = ix3 0 o n := ⟨x 1, x 2, by
    have hx0 : (x 0 : ℕ) = 0 := by have := (x 0).isLt; change (x 0 : ℕ) < 1 at this; omega
    funext a
    match a with
    | ⟨0, _⟩ => exact Fin.ext hx0
    | ⟨1, _⟩ => rfl
    | ⟨2, _⟩ => rfl⟩
  rw [imageAt_stacked, hc]
  have e0 : (Rect.unit (s := S2x96x1024) off ![1, 96, 1024] inb).emb (ix3 0 o n) = ix3 i o n := by
    funext a
    match a with
    | ⟨0, _⟩ => exact Fin.ext (by show off 0 + 1 * 0 = (i : ℕ); omega)
    | ⟨1, _⟩ => exact Fin.ext (by show off 1 + 1 * (o : ℕ) = o; omega)
    | ⟨2, _⟩ => exact Fin.ext (by show off 2 + 1 * (n : ℕ) = n; omega)
  rw [e0]
  rfl

theorem image_mem (y : S2x96x1024.Idx) (i : ℕ) (off : Fin 3 → ℕ)
    (inb : ∀ a, off a + (![1, 96, 1024] : Fin 3 → ℕ) a ≤ S2x96x1024.size a) (h0 : off 0 = i) (h1 : off 1 = 0) (h2 : off 2 = 0)
    (hy : (y 0 : ℕ) = i) : y ∈ (Rect.unit (s := S2x96x1024) off ![1, 96, 1024] inb).set := by
  rw [Rect.mem_set_unit]
  have hy1 := (y 1).isLt
  have hy2 := (y 2).isLt
  change (y 1 : ℕ) < 96 at hy1
  change (y 2 : ℕ) < 1024 at hy2
  intro a
  match a with
  | ⟨0, _⟩ => show off 0 ≤ (y 0 : ℕ) ∧ (y 0 : ℕ) < off 0 + 1; omega
  | ⟨1, _⟩ => show off 1 ≤ (y 1 : ℕ) ∧ (y 1 : ℕ) < off 1 + 96; omega
  | ⟨2, _⟩ => show off 2 ≤ (y 2 : ℕ) ∧ (y 2 : ℕ) < off 2 + 1024; omega

/-- The two images' block, of the stacked weights: the first result at every pixel of the block. -/
theorem images_eq (X : Vec Ideal S2x96x1024 .f32) (gw : Vec Ideal S8x96 .f32) (s : Vec Ideal S384x96 .f32)
    (e : Vec Ideal S8x384x96 .f32) (s' : Vec Ideal S96x384 .f32) (e' : Vec Ideal S8x96x384 .f32) :
    images X gw (stackedFirsts s e) (stackedSeconds s' e') = outBlock X gw s e s' e' := by
  funext y
  unfold images
  refine View.canon_apply_of_pieces (outBlock X gw s e s' e') _ ?_ y ?_
  · refine View.PiecesOf.mem ?_
    exact ⟨outBlock_piece X gw s e s' e' 1 _ _ inb_S2x96x1024_S1x96x1024_1_0_0 rfl rfl rfl (second_column X),
      outBlock_piece X gw s e s' e' 0 _ _ inb_S2x96x1024_S1x96x1024_0_0_0 rfl rfl rfl (first_column X), trivial⟩
  · have hlt : (y 0 : ℕ) < 2 := (y 0).isLt
    rcases (by omega : (y 0 : ℕ) = 0 ∨ (y 0 : ℕ) = 1) with hy | hy
    · exact ⟨_, .tail _ (.head _), image_mem y 0 _ inb_S2x96x1024_S1x96x1024_0_0_0 rfl rfl rfl hy⟩
    · exact ⟨_, .head _, image_mem y 1 _ inb_S2x96x1024_S1x96x1024_1_0_0 rfl rfl rfl hy⟩

/-- What a block adds to the probabilities' and to the counts' sums, image by image. -/
def probSum (gw : Vec Ideal S8x96 .f32) (v : Fin 1024 → Fin 96 → EReal) (e : Fin 8) : EReal :=
  ∑ n, gate (gateOf gw) (v n) e
def countSum (gw : Vec Ideal S8x96 .f32) (v : Fin 1024 → Fin 96 → EReal) (e : Fin 8) : EReal :=
  ∑ n, count (gate (gateOf gw) (v n)) e

theorem upper_emb (e : Fin 8) (l : Fin 128) : upper.emb (ix2 e l) = ix2 (⟨e, by omega⟩ : Fin 16) l := by
  funext a
  match a with
  | ⟨0, _⟩ => exact Fin.ext (by show 0 + 1 * (e : ℕ) = e; omega)
  | ⟨1, _⟩ => exact Fin.ext (by show 0 + 1 * (l : ℕ) = l; omega)

theorem lower_emb (e : Fin 8) (l : Fin 128) : lower.emb (ix2 e l) = ix2 (⟨8 + e, by omega⟩ : Fin 16) l := by
  funext a
  match a with
  | ⟨0, _⟩ => exact Fin.ext (by show 8 + 1 * (e : ℕ) = 8 + e; omega)
  | ⟨1, _⟩ => exact Fin.ext (by show 0 + 1 * (l : ℕ) = l; omega)

theorem accStep_lower (X : Vec Ideal S2x96x1024 .f32) (gw : Vec Ideal S8x96 .f32) (acc : Vec Ideal S16x128 .f32)
    (e : Fin 8) (l : Fin 128) :
    accStep X gw acc (ix2 (⟨8 + e, by omega⟩ : Fin 16) l) =
      acc (ix2 (⟨8 + e, by omega⟩ : Fin 16) l) + (countSum gw (blockPixel X 0) e + countSum gw (blockPixel X 1) e) := by
  rw [← lower_emb]
  unfold accStep
  rw [View.canon_cons_emb lower, pay37_apply, pay37_apply, add_assoc]
  simp only [countAt_apply, probs_first, probs_second]
  rfl

theorem accStep_upper (X : Vec Ideal S2x96x1024 .f32) (gw : Vec Ideal S8x96 .f32) (acc : Vec Ideal S16x128 .f32)
    (e : Fin 8) (l : Fin 128) :
    accStep X gw acc (ix2 (⟨e, by omega⟩ : Fin 16) l) =
      acc (ix2 (⟨e, by omega⟩ : Fin 16) l) + (probSum gw (blockPixel X 0) e + probSum gw (blockPixel X 1) e) := by
  rw [← upper_emb]
  unfold accStep
  have hn : upper.emb (ix2 e l) ∉ lower.set := fun h => by
    rw [Rect.mem_set_unit] at h
    have h0 := (h 0).1
    change 8 ≤ 0 + 1 * (e : ℕ) at h0
    omega
  rw [View.canon_cons_of_not_mem (⟨lower, k0_pay37 (countAt (second X) gw) (k0_pay37 (countAt (first X) gw) (View.ld acc lower))⟩ :
    View.Piece (Elt Ideal) S16x128 .f32) _ hn, View.canon_cons_emb upper, pay36_apply, pay36_apply, add_assoc]
  simp only [pay26_apply, probs_first, probs_second]
  rfl

variable (m : (ℓ : Loc nD τ sig) → Buf (Elt Ideal) ℓ) (c : Dev nD)

/-- The arguments the kernel reads. -/
def argX : Vec Ideal S8x96x32x32 .f32 := m ((c : Thread nD τ).loc main_arg0)
def argGate : Vec Ideal S8x96 .f32 := m ((c : Thread nD τ).loc main_arg5)
def argS1 : Vec Ideal S384x96 .f32 := m ((c : Thread nD τ).loc main_arg1)
def argS2 : Vec Ideal S96x384 .f32 := m ((c : Thread nD τ).loc main_arg3)
def argE1 : Vec Ideal S8x384x96 .f32 := m ((c : Thread nD τ).loc main_arg7)
def argE2 : Vec Ideal S8x96x384 .f32 := m ((c : Thread nD τ).loc main_arg9)

/-- The stacked weights at every grid point. -/
theorem weights (n : ℕ) (hn : n < cfg0.N) : (outsAt0 m c n hn).2.2.1 = stackedFirsts (argS1 m c) (argE1 m c) ∧
    (outsAt0 m c n hn).2.2.2.1 = stackedSeconds (argS2 m c) (argE2 m c) := by
  induction n with
  | zero =>
    have h0 : (⟨0, hn⟩ : Fin cfg0.N).val % 4 = 0 := rfl
    have h1 : ¬(⟨0, hn⟩ : Fin cfg0.N).val % 4 = 3 := by show ¬(0 % 4 = 3); decide
    have hf := firsts_A m c ⟨0, hn⟩ h0 h1
    have hs := seconds_A m c ⟨0, hn⟩ h0 h1
    rw [block2, block3] at hf
    rw [block4, block5] at hs
    exact ⟨hf, hs⟩
  | succ n ih =>
    have hn4 : n + 1 < 4 := points ⟨n + 1, hn⟩
    have h0 : ¬(⟨n + 1, hn⟩ : Fin cfg0.N).val % 4 = 0 := by show ¬((n + 1) % 4 = 0); omega
    have ih' := ih (by omega)
    by_cases h1 : (⟨n + 1, hn⟩ : Fin cfg0.N).val % 4 = 3
    · have hk := kept_C m c ⟨n + 1, hn⟩ h0 h1
      exact ⟨hk.1.trans ih'.1, hk.2.trans ih'.2⟩
    · have hk := kept_B m c ⟨n + 1, hn⟩ h0 h1
      exact ⟨hk.1.trans ih'.1, hk.2.trans ih'.2⟩

/-- What a grid point leaves in the first result's buffer. -/
theorem out_images (t : Fin cfg0.N) : (outsAt0 m c t.val t.isLt).1 =
    outBlock (iblk m c 0 t) (argGate m c) (argS1 m c) (argE1 m c) (argS2 m c) (argE2 m c) := by
  have hw := weights m c t.val t.isLt
  have hi : (outsAt0 m c t.val t.isLt).1 =
      images (iblk m c 0 t) (iblk m c 1 t) (outsAt0 m c t.val t.isLt).2.2.1 (outsAt0 m c t.val t.isLt).2.2.2.1 := by
    by_cases h0 : t.val % 4 = 0
    · exact images_A m c t h0 (by omega)
    · by_cases h1 : t.val % 4 = 3
      · exact images_C m c t h0 h1
      · exact images_B m c t h0 h1
  rw [hi, hw.1, hw.2, block1, images_eq]
  rfl

theorem block_pixel (t : Fin cfg0.N) (i : Fin 2) :
    blockPixel (iblk m c 0 t) i = pixel (argX m c) ⟨2 * t.val + i, by have := points t; omega⟩ := by
  funext n d
  exact block0 m c t i d n

/-- The running sums after each grid point. -/
theorem sums (n : ℕ) (hn : n < cfg0.N) (e : Fin 8) (l : Fin 128) :
    ((outsAt0 m c n hn).2.2.2.2 : Vec Ideal S16x128 .f32) (ix2 (⟨e, by omega⟩ : Fin 16) l) =
        ∑ k ∈ Finset.range (n + 1), (probSum (argGate m c) (pixel (argX m c) (Fin.ofNat 8 (2 * k))) e +
          probSum (argGate m c) (pixel (argX m c) (Fin.ofNat 8 (2 * k + 1))) e) ∧
      ((outsAt0 m c n hn).2.2.2.2 : Vec Ideal S16x128 .f32) (ix2 (⟨8 + e, by omega⟩ : Fin 16) l) =
        ∑ k ∈ Finset.range (n + 1), (countSum (argGate m c) (pixel (argX m c) (Fin.ofNat 8 (2 * k))) e +
          countSum (argGate m c) (pixel (argX m c) (Fin.ofNat 8 (2 * k + 1))) e) := by
  have hpix : ∀ (t : Fin cfg0.N), blockPixel (iblk m c 0 t) 0 = pixel (argX m c) (Fin.ofNat 8 (2 * t.val)) ∧
      blockPixel (iblk m c 0 t) 1 = pixel (argX m c) (Fin.ofNat 8 (2 * t.val + 1)) := fun t => by
    have h4 := points t
    rw [block_pixel, block_pixel]
    constructor
    · congr 1
      exact Fin.ext (by show 2 * t.val + 0 = (2 * t.val) % 8; omega)
    · congr 1
      exact Fin.ext (by show 2 * t.val + 1 = (2 * t.val + 1) % 8; omega)
  induction n with
  | zero =>
    have h0 : (⟨0, hn⟩ : Fin cfg0.N).val % 4 = 0 := rfl
    have h1 : ¬(⟨0, hn⟩ : Fin cfg0.N).val % 4 = 3 := by show ¬(0 % 4 = 3); decide
    have ha : (outsAt0 m c 0 hn).2.2.2.2 = _ := acc_A m c ⟨0, hn⟩ h0 h1
    have hp := hpix ⟨0, hn⟩
    have hz : ∀ y, (k0_pay23 (F := Ideal)) y = (0 : EReal) := fun y => by pointwise [k0_pay23]
    rw [ha, accStep_upper, accStep_lower, hp.1, hp.2, hz, hz, block1]
    simp only [zero_add, Finset.sum_range_one]
    exact ⟨rfl, rfl⟩
  | succ n ih =>
    have hn4 : n + 1 < 4 := points ⟨n + 1, hn⟩
    have h0 : ¬(⟨n + 1, hn⟩ : Fin cfg0.N).val % 4 = 0 := by show ¬((n + 1) % 4 = 0); omega
    have ih' := ih (by omega)
    have ha : (outsAt0 m c (n + 1) hn).2.2.2.2 = accStep (iblk m c 0 ⟨n + 1, hn⟩) (iblk m c 1 ⟨n + 1, hn⟩)
        (outsAt0 m c n (by omega)).2.2.2.2 := by
      by_cases h1 : (⟨n + 1, hn⟩ : Fin cfg0.N).val % 4 = 3
      · exact acc_C m c ⟨n + 1, hn⟩ h0 h1
      · exact acc_B m c ⟨n + 1, hn⟩ h0 h1
    have hp := hpix ⟨n + 1, hn⟩
    rw [ha, accStep_upper, accStep_lower, hp.1, hp.2, block1, ih'.1, ih'.2, Finset.sum_range_succ _ (n + 1),
      Finset.sum_range_succ _ (n + 1)]
    exact ⟨rfl, rfl⟩

/-- What the last grid point leaves in the second result's buffer. -/
theorem out_balance (t : Fin cfg0.N) (h : t.val % 4 = 3) (y : S1x1.Idx) :
    ((outsAt0 m c t.val t.isLt).2.1 : Vec Ideal S1x1 .f32) y = auxOf (gateOf (argGate m c)) (pix (argX m c)) := by
  have h4 := points t
  have h3 : t.val = 3 := by omega
  have hy : y = ix2 0 0 := by
    have hy0 := (y 0).isLt
    have hy1 := (y 1).isLt
    change (y 0 : ℕ) < 1 at hy0
    change (y 1 : ℕ) < 1 at hy1
    funext a
    match a with
    | ⟨0, _⟩ => exact Fin.ext (by show (y 0 : ℕ) = 0; omega)
    | ⟨1, _⟩ => exact Fin.ext (by show (y 1 : ℕ) = 0; omega)
  rw [balance_C m c t (by omega) h, hy, pay2_apply _ _ _ (fun e l => (sums m c t.val t.isLt e l).1)
    (fun e l => (sums m c t.val t.isLt e l).2)]
  unfold auxOf
  have hP : ∀ (b : Fin 8) (e : Fin 8), probSum (argGate m c) (pixel (argX m c) b) e =
      ∑ h, ∑ w, gate (gateOf (argGate m c)) (pix (argX m c) b h w) e := fun b e =>
    sum_pixels fun h w => gate (gateOf (argGate m c)) (pix (argX m c) b h w) e
  have hL : ∀ (b : Fin 8) (e : Fin 8), countSum (argGate m c) (pixel (argX m c) b) e =
      ∑ h, ∑ w, count (gate (gateOf (argGate m c)) (pix (argX m c) b h w)) e := fun b e =>
    sum_pixels fun h w => count (gate (gateOf (argGate m c)) (pix (argX m c) b h w)) e
  simp only [hP, hL, h3]
  congr 1
  · funext e
    rw [Fin.sum_univ_eight]
    simp only [Finset.sum_range_succ, Finset.sum_range_zero, zero_add, add_assoc]
    rfl
  · funext e
    rw [Fin.sum_univ_eight]
    simp only [Finset.sum_range_succ, Finset.sum_range_zero, zero_add, add_assoc]
    rfl

/-- The first result's array, as the region leaves it. -/
def outArray : Vec Ideal S8x96x1024 .f32 := fun j =>
  outAt (gateOf (argGate m c)) (mat (argS1 m c)) (tam (argS2 m c)) (mats (argE1 m c)) (tams (argE2 m c))
    (pixel (argX m c) (j 0) (j 2)) (j 1)

theorem outAt_block (t : Fin cfg0.N) (i : Fin 2) (n : Fin 1024) (o : Fin 96) (b : Fin 8) (n' : Fin 1024) (o' : Fin 96)
    (hb : (b : ℕ) = t.val * 2 + i) (hn : (n' : ℕ) = n) (ho : (o' : ℕ) = o) :
    outAt (gateOf (argGate m c)) (mat (argS1 m c)) (tam (argS2 m c)) (mats (argE1 m c)) (tams (argE2 m c))
        (blockPixel (iblk m c 0 t) i n) o =
      outAt (gateOf (argGate m c)) (mat (argS1 m c)) (tam (argS2 m c)) (mats (argE1 m c)) (tams (argE2 m c))
        (pixel (argX m c) b n') o' := by
  obtain rfl : n' = n := Fin.ext hn
  obtain rfl : o' = o := Fin.ext ho
  have h4 := points t
  rw [block_pixel, show (⟨2 * t.val + i, by omega⟩ : Fin 8) = b from Fin.ext (by show 2 * t.val + (i : ℕ) = b; omega)]

theorem final6 : (dats m 0 c).arrAt 6 cfg0.N = outArray m c := by
  refine (dats m 0 c).arrAt_eq_of_covers 6 _ (by decide +kernel) fun t _ y => ?_
  blk_simp
  rw [after0_6, out_images]
  refine outAt_block m c t (y 0) (y 2) (y 1) _ _ _ ?_ ?_ ?_
  · blk_simp [idx t]
  · blk_simp [idx t]
  · blk_simp [idx t]

theorem final7 : (dats m 0 c).arrAt 7 cfg0.N = fun _ => auxOf (gateOf (argGate m c)) (pix (argX m c)) := by
  refine (dats m 0 c).arrAt_eq_of_covers 7 _ (by decide +kernel) fun t hf y => ?_
  have h3 : t.val % 4 = 3 := (flush0_7 t).mp hf
  blk_simp
  rw [after0_7]
  exact out_balance m c t h3 _

theorem tail_out : Pipeline.afterTail₀ cfgs (dats m) 0 (V0 m) [hostOps1] c main_v2 =
    shapeCast S8x96x32x32 (outArray m c) shapeCasts_S8x96x1024_S8x96x32x32 := by
  show StableHlo.after hostOps1 _ (Proc.devRef .tc main_v2) = _
  after_results
  rw [show Pipeline.withArrays spec0 c (V0 m c) (fun w => (dats m 0 c).arrAt w cfg0.N) (Proc.devRef .tc main_v1_0) = outArray m c from
    (Pipeline.withArrays_arr spec0 launch0.win.arr_inj c (V0 m c) (fun w => (dats m 0 c).arrAt w cfg0.N) 6).trans (final6 m c)]
  rfl

theorem tail_aux : Pipeline.afterTail₀ cfgs (dats m) 0 (V0 m) [hostOps1] c main_v3 =
    fun _ => auxOf (gateOf (argGate m c)) (pix (argX m c)) := by
  show StableHlo.after hostOps1 _ (Proc.devRef .tc main_v3) = _
  after_results
  rw [show Pipeline.withArrays spec0 c (V0 m c) (fun w => (dats m 0 c).arrAt w cfg0.N) (Proc.devRef .tc main_v1_1) =
      (fun _ => auxOf (gateOf (argGate m c)) (pix (argX m c))) from
    (Pipeline.withArrays_arr spec0 launch0.win.arr_inj c (V0 m c) (fun w => (dats m 0 c).arrAt w cfg0.N) 7).trans (final7 m c)]
  rfl

/-- The first result, in the shape the program returns it. -/
theorem outArray_reshaped (j : S8x96x32x32.Idx) :
    shapeCast S8x96x32x32 (outArray m c) shapeCasts_S8x96x1024_S8x96x32x32 j =
      outAt (gateOf (argGate m c)) (mat (argS1 m c)) (tam (argS2 m c)) (mats (argE1 m c)) (tams (argE2 m c))
        (pix (argX m c) (j 0) (j 2) (j 3)) (j 1) := by
  obtain ⟨b, d, h, w, rfl⟩ : ∃ (b : Fin 8) (d : Fin 96) (h w : Fin 32), j = ix4 b d h w := ⟨j 0, j 1, j 2, j 3, by
    funext a
    match a with
    | ⟨0, _⟩ => rfl
    | ⟨1, _⟩ => rfl
    | ⟨2, _⟩ => rfl
    | ⟨3, _⟩ => rfl⟩
  pointwise
  have hp : pixel (argX m c) b (⟨(h : ℕ) * 32 + w, by omega⟩ : Fin 1024) = pix (argX m c) b h w := by
    unfold pixel
    congr 1
    · exact Fin.ext (by show ((h : ℕ) * 32 + w) / 32 = h; omega)
    · exact Fin.ext (by show ((h : ℕ) * 32 + w) % 32 = w; omega)
  rw [← hp]
  rfl

/-- The kernel's run: what its two results end holding. -/
theorem kernel_run (ρ : Dev nD → PrngReg) : θ_run defs (onTc (τ := τ) (main (F := Ideal))) ⟨m, fun _ => 0, ρ⟩ fun r => ∀ c : Dev nD,
    r.2.mem ((c.tc : Thread nD τ).loc main_v2) = (fun j : S8x96x32x32.Idx =>
        outAt (gateOf (argGate m c)) (mat (argS1 m c)) (tam (argS2 m c)) (mats (argE1 m c)) (tams (argE2 m c))
          (pix (argX m c) (j 0) (j 2) (j 3)) (j 1)) ∧
      r.2.mem ((c.tc : Thread nD τ).loc main_v3) = fun _ => auxOf (gateOf (argGate m c)) (pix (argX m c)) :=
  (θ_run defs _ _).mono (fun r h c =>
    ⟨((h c).2 main_v2 (Pipeline.mem_restRefs_of main_v2 (by decide) (by decide))).trans
        ((tail_out m c).trans (funext fun j => outArray_reshaped m c j)),
      ((h c).2 main_v3 (Pipeline.mem_restRefs_of main_v3 (by decide) (by decide))).trans (tail_aux m c)⟩) (run_main m ρ)

end Cert.Moe

end
-- ==== Proof.RefEntry.lean ====
/- The reference's values at an entry, where every bias is zero. -/
module

public import proofs.«01_k».proof.Proof.Gen.ReferenceIdeal.Run
public import proofs.«01_k».proof.Proof.Consts
public import proofs.«01_k».proof.Proof.Spec
public import Idealize.ShloMosaic.Lib.Pipeline.ValueKit
public import Idealize.ShloMosaic.Lib.Pointwise

@[expose] public section

set_option maxRecDepth 16384

noncomputable section

namespace Cert.Moe
open Cert.ReferenceIdeal Cert.ReferenceIdeal.Value Idealize.ShloMosaic Idealize.ShloMosaic.TcCoe Idealize.SL.Sem

/-! The arguments of the reference, at one core. -/
variable (V : Valuation τ sig (Elt Ideal))

def refX (b : Fin 8) (h w : Fin 32) (d : Fin 96) : EReal :=
  (V (Proc.devRef .tc main_arg0) : FVec Ideal S8x96x32x32 .f32) (ix4 b d h w)
def refS1 (h : Fin 384) (d : Fin 96) : EReal := (V (Proc.devRef .tc main_arg1) : FVec Ideal S384x96 .f32) (ix2 h d)
def refS2 (o : Fin 96) (h : Fin 384) : EReal := (V (Proc.devRef .tc main_arg3) : FVec Ideal S96x384 .f32) (ix2 o h)
def refGate (e : Fin 8) (d : Fin 96) : EReal := (V (Proc.devRef .tc main_arg5) : FVec Ideal S8x96 .f32) (ix2 e d)
def refE1 (k : Fin 8) (h : Fin 384) (d : Fin 96) : EReal := (V (Proc.devRef .tc main_arg7) : FVec Ideal S8x384x96 .f32) (ix3 k h d)
def refE2 (k : Fin 8) (o : Fin 96) (h : Fin 384) : EReal := (V (Proc.devRef .tc main_arg9) : FVec Ideal S8x96x384 .f32) (ix3 k o h)

/-- Every bias is zero. -/
structure NoBias : Prop where
  b2 : ∀ j : Fin 384, (V (Proc.devRef .tc main_arg2) : FVec Ideal S384 .f32) (ix1 j) = (0 : EReal)
  b4 : ∀ j : Fin 96, (V (Proc.devRef .tc main_arg4) : FVec Ideal S96 .f32) (ix1 j) = (0 : EReal)
  b6 : ∀ j : Fin 8, (V (Proc.devRef .tc main_arg6) : FVec Ideal S8 .f32) (ix1 j) = (0 : EReal)
  b8 : ∀ (k : Fin 8) (j : Fin 384), (V (Proc.devRef .tc main_arg8) : FVec Ideal S8x384 .f32) (ix2 k j) = (0 : EReal)
  b10 : ∀ (k : Fin 8) (j : Fin 96), (V (Proc.devRef .tc main_arg10) : FVec Ideal S8x96 .f32) (ix2 k j) = (0 : EReal)

theorem swap_sum (f g : Fin 96 → EReal) (z : EReal) (hz : z = 0) : (∑ d, f d * g d) + z = ∑ d, g d * f d := by
  rw [hz, add_zero]
  exact Finset.sum_congr rfl fun d _ => mul_comm _ _

theorem top_filter (s : Fin 8 → EReal) (R : FVec Ideal S8x8x32x32 .f32) (b : Fin 8) (h w : Fin 32)
    (hR : ∀ e, R (ix4 b e h w) = s e) :
    Finset.fold max ⊥ R {i | Gen.reducesTo_S8x8x32x32_S8x32x32_d1.drop i = ix3 b h w} = top s := by
  rw [Shape.ReducesTo.fold_fiber_r4_a1]
  exact (congrArg (fun f : Fin 8 → EReal => Finset.univ.fold max (⊥ : EReal) f) (funext hR)).trans (fold_max_eq_top s)

/-- The three greatest along the last axis: the values, and their positions. -/
theorem topK_apply (x : FVec Ideal S8x32x32x8 .f32) (p : Fin 8 → EReal) (b : Fin 8) (h w : Fin 32)
    (hx : ∀ e, x (ix4 b h w e) = p e) (k : Fin 3) :
    (Host.topK S8x32x32x3 3 (FloatOps.cmpfTotal .gt) x Gen.sliceFits_S8x32x32x8_S8x32x32x3).1 (ix4 b h w k) = p (sorted p k) ∧
    (Host.topK S8x32x32x3 3 (FloatOps.cmpfTotal .gt) x Gen.sliceFits_S8x32x32x8_S8x32x32x3).2 (ix4 b h w k) =
      BitVec.ofNat 32 (sorted p k : ℕ) := by
  have hd : 3 < S8x32x32x8.rank := by decide
  have hj : ∀ e : Fin 8, Shape.Idx.along (s := S8x32x32x8)
      (fun a => ⟨0 + ((ix4 b h w k : S8x32x32x3.Idx) (a.cast Gen.sliceFits_S8x32x32x8_S8x32x32x3.1.symm)).val,
        Nat.lt_of_lt_of_le (Nat.add_lt_add_left (Fin.isLt _) _) (Gen.sliceFits_S8x32x32x8_S8x32x32x3.2 a)⟩)
      ⟨3, hd⟩ e = ix4 b h w e := fun e => by
    funext a
    match a with
    | ⟨0, _⟩ => exact Fin.ext (Nat.zero_add _)
    | ⟨1, _⟩ => exact Fin.ext (Nat.zero_add _)
    | ⟨2, _⟩ => exact Fin.ext (Nat.zero_add _)
    | ⟨3, _⟩ => rfl
  have hs : sortedFrom (fun e e' : Fin 8 => FloatOps.cmpfTotal (F := Ideal) (φ := .f32) .gt (x (ix4 b h w e)) (x (ix4 b h w e')) == 1#1)
      (⟨0 + (k : ℕ), by omega⟩ : Fin 8) = sorted p k := by
    have hb : (fun e e' : Fin 8 => FloatOps.cmpfTotal (F := Ideal) (φ := .f32) .gt (x (ix4 b h w e)) (x (ix4 b h w e')) == 1#1) =
        fun e e' => decide (p e' < p e) := by
      funext e e'
      rw [hx, hx]
      show (BitVec.ofBool (decide (p e' < p e)) == 1#1) = _
      cases decide (p e' < p e) <;> rfl
    rw [hb]
    exact congrArg _ (Fin.ext (Nat.zero_add _))
  have hf := funext fun e => funext fun e' => congrArg₂ (fun u v : S8x32x32x8.Idx =>
    FloatOps.cmpfTotal (F := Ideal) (φ := .f32) .gt (x u) (x v) == 1#1) (hj e) (hj e')
  simp only [Host.topK, Host.sort2, extractStridedSlice, dif_pos hd]
  constructor
  · refine (congrArg x ((hj _).trans (congrArg (ix4 b h w) (Eq.trans (congrArg₂ sortedFrom hf rfl) hs)))).trans (hx _)
  · refine (congrArg (iotaInDim S8x32x32x8 32 ⟨3, hd⟩) ((hj _).trans (congrArg (ix4 b h w) (Eq.trans (congrArg₂ sortedFrom hf rfl) hs)))).trans rfl

variable {V} (hV : NoBias V)
include hV

theorem v4_apply (b : Fin 8) (j : Fin 384) (h w : Fin 32) :
    res_main_v4 V (ix4 b j h w) = hidden (refS1 V) (refX V b h w) j := by
  pointwise [res_main_v4]
  exact swap_sum (refX V b h w) (refS1 V j) _ (hV.b2 j)

theorem v22_apply (b : Fin 8) (e : Fin 8) (h w : Fin 32) :
    res_main_v22 V (ix4 b e h w) = score (refGate V) (refX V b h w) e := by
  pointwise [res_main_v22]
  exact swap_sum (refX V b h w) (refGate V e) _ (hV.b6 e)

theorem v33_apply (b : Fin 8) (e : Fin 8) (h w : Fin 32) :
    res_main_v33 V (ix4 b e h w) = gate (refGate V) (refX V b h w) e := by
  pointwise [res_main_v33, res_main_v29]
  simp only [lit_bot, v22_apply hV, bot_sup_eq]
  exact congrArg (fun T : EReal => Ideal.div (Ideal.exp (score (refGate V) (refX V b h w) e - T))
    (∑ e', Ideal.exp (score (refGate V) (refX V b h w) e' - T)))
    (top_filter (score (refGate V) (refX V b h w)) (res_main_v22 V) b h w fun e => v22_apply hV b e h w)

theorem v59_apply (b : Fin 8) (j : Fin 384) (h w : Fin 32) :
    res_main_v59 V (ix4 b j h w) = hidden (refE1 V 0) (refX V b h w) j := by
  pointwise [res_main_v59]
  exact swap_sum (refX V b h w) (refE1 V 0 j) _ (hV.b8 0 j)

theorem v89_apply (b : Fin 8) (j : Fin 384) (h w : Fin 32) :
    res_main_v89 V (ix4 b j h w) = hidden (refE1 V 1) (refX V b h w) j := by
  pointwise [res_main_v89]
  exact swap_sum (refX V b h w) (refE1 V 1 j) _ (hV.b8 1 j)

theorem v119_apply (b : Fin 8) (j : Fin 384) (h w : Fin 32) :
    res_main_v119 V (ix4 b j h w) = hidden (refE1 V 2) (refX V b h w) j := by
  pointwise [res_main_v119]
  exact swap_sum (refX V b h w) (refE1 V 2 j) _ (hV.b8 2 j)

theorem v149_apply (b : Fin 8) (j : Fin 384) (h w : Fin 32) :
    res_main_v149 V (ix4 b j h w) = hidden (refE1 V 3) (refX V b h w) j := by
  pointwise [res_main_v149]
  exact swap_sum (refX V b h w) (refE1 V 3 j) _ (hV.b8 3 j)

theorem v179_apply (b : Fin 8) (j : Fin 384) (h w : Fin 32) :
    res_main_v179 V (ix4 b j h w) = hidden (refE1 V 4) (refX V b h w) j := by
  pointwise [res_main_v179]
  exact swap_sum (refX V b h w) (refE1 V 4 j) _ (hV.b8 4 j)

theorem v209_apply (b : Fin 8) (j : Fin 384) (h w : Fin 32) :
    res_main_v209 V (ix4 b j h w) = hidden (refE1 V 5) (refX V b h w) j := by
  pointwise [res_main_v209]
  exact swap_sum (refX V b h w) (refE1 V 5 j) _ (hV.b8 5 j)

theorem v239_apply (b : Fin 8) (j : Fin 384) (h w : Fin 32) :
    res_main_v239 V (ix4 b j h w) = hidden (refE1 V 6) (refX V b h w) j := by
  pointwise [res_main_v239]
  exact swap_sum (refX V b h w) (refE1 V 6 j) _ (hV.b8 6 j)

theorem v269_apply (b : Fin 8) (j : Fin 384) (h w : Fin 32) :
    res_main_v269 V (ix4 b j h w) = hidden (refE1 V 7) (refX V b h w) j := by
  pointwise [res_main_v269]
  exact swap_sum (refX V b h w) (refE1 V 7 j) _ (hV.b8 7 j)

end Cert.Moe

end
-- ==== Proof.RefResult.lean ====
/- The reference's results, where every bias is zero. -/
module

public import proofs.«01_k».proof.Proof.RefEntry
public import Idealize.ShloMosaic.Lib.Pipeline.ValueKit
public import Idealize.ShloMosaic.Lib.Pointwise

@[expose] public section

set_option maxRecDepth 16384

noncomputable section

namespace Cert.Moe
open Cert.ReferenceIdeal Cert.ReferenceIdeal.Value Idealize.ShloMosaic Idealize.ShloMosaic.TcCoe Idealize.SL.Sem StableHlo

variable {V : Valuation τ sig (Elt Ideal)} (hV : NoBias V)
include hV

theorem v34_apply (b : Fin 8) (h w : Fin 32) (e : Fin 8) :
    res_main_v34 V (ix4 b h w e) = gate (refGate V) (refX V b h w) e := by
  pointwise [res_main_v34]
  exact v33_apply hV b e h w

theorem values_apply (b : Fin 8) (h w : Fin 32) (k : Fin 3) :
    res_main_values V (ix4 b h w k) =
      gate (refGate V) (refX V b h w) (sorted (gate (refGate V) (refX V b h w)) k) :=
  (topK_apply (res_main_v34 V) _ b h w (v34_apply hV b h w) k).1

omit hV in
theorem test_eq (s e : Fin 8) :
    FloatOps.uitofp (F := Ideal) .f32 (IntOp.cmpi .eq (BitVec.ofNat 32 (s : ℕ)) (BitVec.ofNat 32 (e : ℕ))) =
      (if s = e then 1 else 0 : EReal) := by
  by_cases hse : s = e
  · subst hse
    simp only [IntOp.cmpi, beq_self_eq_true, if_true]
    show (((1#1 : BitVec 1).toNat : ℝ) : EReal) = 1
    norm_num
  · have hne : BitVec.ofNat 32 (s : ℕ) ≠ BitVec.ofNat 32 (e : ℕ) := fun hc => hse (by
      have := congrArg BitVec.toNat hc
      simp only [BitVec.toNat_ofNat] at this
      exact Fin.ext (by omega))
    simp only [IntOp.cmpi, if_neg hse, beq_eq_false_iff_ne.mpr hne]
    show (((0#1 : BitVec 1).toNat : ℝ) : EReal) = 0
    norm_num

theorem v39_apply (b : Fin 8) (h w : Fin 32) (k : Fin 3) (e : Fin 8) :
    res_main_v39 V (ix5 b h w k e) = if sorted (gate (refGate V) (refX V b h w)) k = e then (1 : EReal) else 0 := by
  pointwise [res_main_v39]
  rw [(topK_apply (res_main_v34 V) _ b h w (v34_apply hV b h w) k).2]
  exact test_eq _ e

theorem v44_apply (b : Fin 8) (e : Fin 8) (h w : Fin 32) :
    res_main_v44 V (ix4 b e h w) = mix (gate (refGate V) (refX V b h w)) e := by
  refine Eq.trans ?_ (sortedMix_prob (score (refGate V) (refX V b h w)) e)
  pointwise [res_main_v44]
  simp only [v39_apply hV, values_apply hV]
  rfl

omit hV in
theorem expert_plain (w1 : Fin 384 → Fin 96 → EReal) (w2 : Fin 96 → Fin 384 → EReal) (x : Fin 96 → EReal) (o : Fin 96)
    (g : EReal) : g * (expert w1 w2 x o + 0) = expert w1 w2 x o * g := by
  rw [add_zero, mul_comm]

theorem v165_apply (b : Fin 8) (o : Fin 96) (h w : Fin 32) : res_main_v165 V (ix4 b o h w) =
    (expert (refE1 V 0) (refE2 V 0) (refX V b h w) o * mix (gate (refGate V) (refX V b h w)) 0 +
    expert (refE1 V 1) (refE2 V 1) (refX V b h w) o * mix (gate (refGate V) (refX V b h w)) 1 +
    expert (refE1 V 2) (refE2 V 2) (refX V b h w) o * mix (gate (refGate V) (refX V b h w)) 2 +
    expert (refE1 V 3) (refE2 V 3) (refX V b h w) o * mix (gate (refGate V) (refX V b h w)) 3 : EReal) := by
  pointwise [res_main_v165]
  simp only [v44_apply hV, v59_apply hV, v89_apply hV, v119_apply hV, v149_apply hV, hV.b10, lit_half, lit_two]
  exact congrArg₂ (· + ·) (congrArg₂ (· + ·) (congrArg₂ (· + ·) (expert_plain (refE1 V 0) (refE2 V 0) (refX V b h w) o _)
    (expert_plain (refE1 V 1) (refE2 V 1) (refX V b h w) o _)) (expert_plain (refE1 V 2) (refE2 V 2) (refX V b h w) o _))
    (expert_plain (refE1 V 3) (refE2 V 3) (refX V b h w) o _)

theorem v285_apply (b : Fin 8) (o : Fin 96) (h w : Fin 32) : (res_main_v285 V (ix4 b o h w) : EReal) =
    ((show EReal from res_main_v165 V (ix4 b o h w)) +
    expert (refE1 V 4) (refE2 V 4) (refX V b h w) o * mix (gate (refGate V) (refX V b h w)) 4 +
    expert (refE1 V 5) (refE2 V 5) (refX V b h w) o * mix (gate (refGate V) (refX V b h w)) 5 +
    expert (refE1 V 6) (refE2 V 6) (refX V b h w) o * mix (gate (refGate V) (refX V b h w)) 6 +
    expert (refE1 V 7) (refE2 V 7) (refX V b h w) o * mix (gate (refGate V) (refX V b h w)) 7 : EReal) := by
  pointwise [res_main_v285]
  simp only [v44_apply hV, v179_apply hV, v209_apply hV, v239_apply hV, v269_apply hV, hV.b10, lit_half, lit_two]
  exact congrArg₂ (· + ·) (congrArg₂ (· + ·) (congrArg₂ (· + ·) (congrArg₂ (· + ·) rfl
    (expert_plain (refE1 V 4) (refE2 V 4) (refX V b h w) o _)) (expert_plain (refE1 V 5) (refE2 V 5) (refX V b h w) o _))
    (expert_plain (refE1 V 6) (refE2 V 6) (refX V b h w) o _)) (expert_plain (refE1 V 7) (refE2 V 7) (refX V b h w) o _)

omit hV in
/-- The sum of an array over its batch and its two coordinates. -/
theorem sum_images (x : FVec Ideal S8x8x32x32 .f32) (e : Fin 8) :
    Ideal.hostReduceAdd Gen.reducesTo_S8x8x32x32_S8_d0_2_3 x 0 (ix1 e) = ∑ b : Fin 8, ∑ h : Fin 32, ∑ w : Fin 32, (x (ix4 b e h w) : EReal) := by
  have h := Finset.sum_filter_eq_sum_of_fiber (fun i : S8x8x32x32.Idx => Gen.reducesTo_S8x8x32x32_S8_d0_2_3.drop i = ix1 e)
    (fun q : Fin 8 × Fin 32 × Fin 32 => (ix4 q.1 e q.2.1 q.2.2 : S8x8x32x32.Idx))
    (fun q q' hq => Prod.ext (congrFun hq 0) (Prod.ext (congrFun hq 2) (congrFun hq 3)))
    (fun i => ⟨fun hi => ⟨(i 0, i 2, i 3), by
      funext a
      match a with
      | ⟨0, _⟩ => rfl
      | ⟨1, _⟩ => exact (congrFun hi 0).symm
      | ⟨2, _⟩ => rfl
      | ⟨3, _⟩ => rfl⟩, fun ⟨q, hq⟩ => by
      subst hq
      funext a
      match a with
      | ⟨0, _⟩ => rfl⟩) x
  show (0 : EReal) + _ = _
  rw [zero_add]
  refine h.trans ?_
  rw [Fintype.sum_prod_type]
  exact Finset.sum_congr rfl fun b _ => Fintype.sum_prod_type _

omit hV in
/-- The sum of an array over its batch and its two coordinates. -/
theorem sum_last (x : FVec Ideal S8x32x32x8 .f32) (e : Fin 8) :
    Ideal.hostReduceAdd Gen.reducesTo_S8x32x32x8_S8_d0_1_2 x 0 (ix1 e) = ∑ b : Fin 8, ∑ h : Fin 32, ∑ w : Fin 32, (x (ix4 b h w e) : EReal) := by
  have h := Finset.sum_filter_eq_sum_of_fiber (fun i : S8x32x32x8.Idx => Gen.reducesTo_S8x32x32x8_S8_d0_1_2.drop i = ix1 e)
    (fun q : Fin 8 × Fin 32 × Fin 32 => (ix4 q.1 q.2.1 q.2.2 e : S8x32x32x8.Idx))
    (fun q q' hq => Prod.ext (congrFun hq 0) (Prod.ext (congrFun hq 1) (congrFun hq 2)))
    (fun i => ⟨fun hi => ⟨(i 0, i 1, i 2), by
      funext a
      match a with
      | ⟨0, _⟩ => rfl
      | ⟨1, _⟩ => rfl
      | ⟨2, _⟩ => rfl
      | ⟨3, _⟩ => exact (congrFun hi 0).symm⟩, fun ⟨q, hq⟩ => by
      subst hq
      funext a
      match a with
      | ⟨0, _⟩ => rfl⟩) x
  show (0 : EReal) + _ = _
  rw [zero_add]
  refine h.trans ?_
  rw [Fintype.sum_prod_type]
  exact Finset.sum_congr rfl fun b _ => Fintype.sum_prod_type _

omit hV in
theorem div_pixels (a : EReal) : Ideal.div a ((8192 : ℝ) : EReal) = a * perPixel := by
  unfold Ideal.div perPixel
  rw [if_neg (by norm_num), ← EReal.coe_inv]
  norm_num

/-- How many of a pixel's three positions are expert `e`'s. -/
theorem counts_apply (b : Fin 8) (h w : Fin 32) (e : Fin 8) :
    Host.reduceAdd (res_main_v39 V) (constant S_ .f32 0#32) Gen.reducesTo_S8x32x32x3x8_S8x32x32x8_d3 Gen.h_S_ (ix4 b h w e) =
      sortedCount (gate (refGate V) (refX V b h w)) e := by
  pointwise
  simp only [v39_apply hV]
  rfl

omit hV in
theorem regroup (x s a b c d e f g k : EReal) :
    x + (s + 0) + (a + b + c + d + e + f + g + k) = x + s + a + b + c + d + e + f + g + k := by
  simp only [add_zero, add_assoc]

omit hV in
/-- The reference's run from a memory whose biases are zero. -/
theorem ref_run (m : (ℓ : Loc nD τ sig) → Buf (Elt Ideal) ℓ) (ρ : Dev nD → PrngReg) (hV : ∀ c : Dev nD, NoBias (launchContents m c)) :
    θ_run defs (onTc (τ := τ) (main (F := Ideal))) ⟨m, fun _ => 0, ρ⟩ fun r => ∀ c : Dev nD,
      r.2.mem ((c.tc : Thread nD τ).loc main_v297) = (fun j : S8x96x32x32.Idx => outAt (refGate (launchContents m c))
        (refS1 (launchContents m c)) (refS2 (launchContents m c)) (refE1 (launchContents m c)) (refE2 (launchContents m c))
        (refX (launchContents m c) (j 0) (j 2) (j 3)) (j 1)) ∧
      r.2.mem ((c.tc : Thread nD τ).loc main_v295) = (fun _ => auxOf (refGate (launchContents m c)) (refX (launchContents m c))) := by
  refine (θ_run defs _ _).mono (fun r hr c => ⟨(hr c).1.trans ?_, (hr c).2.1.trans ?_⟩) (Value.run m ρ)
  · have hc := hV c
    clear hV hr
    generalize launchContents m c = V at hc ⊢
    funext j
    obtain ⟨b, o, h, w, rfl⟩ : ∃ (b : Fin 8) (o : Fin 96) (h w : Fin 32), j = ix4 b o h w := ⟨j 0, j 1, j 2, j 3, by
      funext a
      match a with
      | ⟨0, _⟩ => rfl
      | ⟨1, _⟩ => rfl
      | ⟨2, _⟩ => rfl
      | ⟨3, _⟩ => rfl⟩
    pointwise
    simp only [v4_apply hc, v285_apply hc, v165_apply hc, hc.b4, lit_half, lit_two]
    exact regroup (refX V b h w o) (expert (refS1 V) (refS2 V) (refX V b h w) o) _ _ _ _ _ _ _ _
  · have hc := hV c
    clear hV hr
    generalize launchContents m c = V at hc ⊢
    funext j
    refine Eq.trans ?_ (auxOf_sorted (refGate V) (refX V))
    pointwise
    simp only [lit_eight, lit_pixels, div_pixels, sum_images, sum_last, v33_apply hc, counts_apply hc]
    rfl

end Cert.Moe

end
-- ==== Proof.Equal.lean ====
/- The two runs side by side: from memories whose arguments agree and whose biases are zero they leave the same two
   results. -/
module

public import proofs.«01_k».proof.Defs
public import proofs.«01_k».proof.Proof.BiasesZero
public import proofs.«01_k».proof.Proof.KernelRun
public import proofs.«01_k».proof.Proof.RefResult
public import proofs.«01_k».proof.Proof.Gen.KernelIdeal.Frame

@[expose] public section

noncomputable section

namespace Cert.Moe.Equal

open Idealize.ShloMosaic Idealize.SL.Sem

/-- Both results, the whole of them. -/
theorem results : Cert.algebraic_KernelIdeal_ReferenceIdeal_pre_biases_zero := by
  intro m g m' g' hpre hargs
  have hV : ∀ c : Dev Cert.ReferenceIdeal.nD, NoBias (StableHlo.launchContents m' c) := fun c => by
    obtain ⟨z2, z4, z6, z8, z10⟩ := Biases.all_zero _ _ _ _ _ _ _ _ _ _ _ (hpre c)
    obtain ⟨-, -, q2, -, q4, -, q6, -, q8, -, q10⟩ := hargs c
    exact ⟨fun j => (congrFun q2 _).trans (z2 _), fun j => (congrFun q4 _).trans (z4 _), fun j => (congrFun q6 _).trans (z6 _),
      fun k j => (congrFun q8 _).trans (z8 _), fun k j => (congrFun q10 _).trans (z10 _)⟩
  have eX : ∀ c : Dev Cert.ReferenceIdeal.nD, refX (StableHlo.launchContents m' c) = pix (argX m c) := fun c => by
    funext b h w d
    exact congrFun (hargs c).1 _
  have eS1 : ∀ c : Dev Cert.ReferenceIdeal.nD, refS1 (StableHlo.launchContents m' c) = mat (argS1 m c) := fun c => by
    funext h d
    exact congrFun (hargs c).2.1 _
  have eS2 : ∀ c : Dev Cert.ReferenceIdeal.nD, refS2 (StableHlo.launchContents m' c) = tam (argS2 m c) := fun c => by
    funext o h
    exact congrFun (hargs c).2.2.2.1 _
  have eG : ∀ c : Dev Cert.ReferenceIdeal.nD, refGate (StableHlo.launchContents m' c) = gateOf (argGate m c) := fun c => by
    funext e d
    exact congrFun (hargs c).2.2.2.2.2.1 _
  have eE1 : ∀ c : Dev Cert.ReferenceIdeal.nD, refE1 (StableHlo.launchContents m' c) = mats (argE1 m c) := fun c => by
    funext k h d
    exact congrFun (hargs c).2.2.2.2.2.2.2.1 _
  have eE2 : ∀ c : Dev Cert.ReferenceIdeal.nD, refE2 (StableHlo.launchContents m' c) = tams (argE2 m c) := fun c => by
    funext k o h
    exact congrFun (hargs c).2.2.2.2.2.2.2.2.2.1 _
  refine ⟨_, _, (θ_run Cert.KernelIdeal.defs _ _).mono (fun r h c => ⟨(h.1 c).1, (h.1 c).2, h.2 c⟩)
      (θ_run_and (kernel_run m g) (Cert.KernelIdeal.Gen.unchanged m g)),
    (θ_run Cert.ReferenceIdeal.defs _ _).mono (fun r h c => ⟨(h.1 c).1.trans ?_, (h.1 c).2.trans ?_, (h.2 c).2.2⟩)
      (θ_run_and (ref_run m' g' hV) (Cert.ReferenceIdeal.Value.run m' g'))⟩
  · rw [eX, eS1, eS2, eG, eE1, eE2]
  · rw [eX, eG]
    rfl

end Cert.Moe.Equal

end
-- ==== Proof.Frames.lean ====
/- The frame claims and the `preserves` claim. The frames of the two kernels are the generated ones; the reference
   has no semaphores, so its frame is its run with the results forgotten. -/
module

public import proofs.«01_k».proof.Defs
public import proofs.«01_k».proof.Proof.BiasesZero
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Moe.Frames

open Idealize.ShloMosaic Idealize.SL.Sem

/-- The printed kernel, at the machine's words: it ends, its arguments stand, its counters are zero. -/
theorem words : Cert.quiescent_Kernel := by
  intro mem gen _
  exact Cert.Kernel.Gen.frame mem gen

/-- The same of the kernel over the extended reals. -/
theorem reals : Cert.quiescent_KernelIdeal := by
  intro mem gen _
  exact Cert.KernelIdeal.Gen.frame mem gen

/-- The reference over the extended reals: of its run keep that the arguments stand; it names no semaphore at all. -/
theorem host : Cert.quiescent_ReferenceIdeal := by
  intro mem gen _
  have counters : ∀ s : MemSt Cert.ReferenceIdeal.nD Cert.ReferenceIdeal.τ Cert.ReferenceIdeal.sig (Elt Ideal),
      s.sem = fun _ => 0 := Idealize.ShloMosaic.sem_eq_zero_of_no_sems (by decide)
  refine (θ_run Cert.ReferenceIdeal.defs _ _).mono ?_ (Cert.ReferenceIdeal.Value.run (F := Ideal) mem gen)
  exact fun out held => ⟨fun dev => (held dev).2.2, counters out.2⟩

/-- The same from a memory where the biases are zero. -/
theorem reals_no_bias : Cert.quiescent_KernelIdeal_pre_biases_zero := fun mem gen _ => reals mem gen trivial

/-- The reference from a memory where the biases are zero. -/
theorem host_no_bias : Cert.quiescent_ReferenceIdeal_pre_biases_zero := fun mem gen _ => host mem gen trivial

/-- The kernel's literal `0.70710677` is named `1/√2`: that is what the name stands for, and the literal is its
    rounding. -/
theorem ideal_pass : Cert.preserves_Kernel_KernelIdeal :=
  IdealRules.named_const.statement Cert.KernelIdeal.κ "half_root" .f32 0x3F3504F3#32 (((Real.sqrt 2)⁻¹ : ℝ) : EReal) rfl

end Cert.Moe.Frames

end
-- ==== Proof.lean ====
/- The certificate, assembled: the witnesses of the programs' stated facts, then one theorem for each claim. -/
module

public import proofs.«01_k».proof.Defs
public import proofs.«01_k».proof.Proof.BiasesZero
public import proofs.«01_k».proof.Proof.Equal
public import proofs.«01_k».proof.Proof.Frames
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Moe.Biases.facts,
    Cert.Moe.Frames.words, Cert.Moe.Frames.reals, Cert.Moe.Frames.reals_no_bias, Cert.Moe.Frames.host, Cert.Moe.Frames.host_no_bias,
    Cert.Moe.Frames.ideal_pass, Cert.Moe.Equal.results⟩

end Cert.Proof

end
